-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 4096]⟩ ⟨2, ![1024, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S256x4096 : Shape := ⟨2, ![256, 4096]⟩
abbrev S4x256x1024 : Shape := ⟨3, ![4, 256, 1024]⟩
abbrev S4x3x256x1024 : Shape := ⟨4, ![4, 3, 256, 1024]⟩
abbrev S4x3 : Shape := ⟨2, ![4, 3]⟩
abbrev S1024x256 : Shape := ⟨2, ![1024, 256]⟩
abbrev S256x1024 : Shape := ⟨2, ![256, 1024]⟩
abbrev S1x256x1024 : Shape := ⟨3, ![1, 256, 1024]⟩
abbrev S_ : Shape := ⟨0, ![]⟩
abbrev S1x1 : Shape := ⟨2, ![1, 1]⟩
abbrev S1x1x256x1024 : Shape := ⟨4, ![1, 1, 256, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S256x4096, .f32⟩
  | .local _ .vmem, ⟨0, _⟩ => ⟨S1024x1024, .f32⟩
  | .local _ .vmem, ⟨1, _⟩ => ⟨S1024x4096, .f32⟩
  | .local _ .vmem, ⟨2, _⟩ => ⟨S256x4096, .f32⟩
  | .local _ .vmem, ⟨3, _⟩ => ⟨S1024x4096, .bf16⟩
  | .local _ .vmem, ⟨4, _⟩ => ⟨S4x256x1024, .bf16⟩
  | .local _ .vmem, ⟨5, _⟩ => ⟨S4x3x256x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_23 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_14 : BitVec 32 := 4#32
  let v26 : BitVec 32 := Scalar.addi v2 c4_i32_14
  let c1_i32_15 : BitVec 32 := 1#32
  let v27 : BitVec 32 := Scalar.subi v26 c1_i32_15
  let c4_i32_16 : BitVec 32 := 4#32
  let c0_i32_17 : BitVec 32 := 0#32
  let v28 : BitVec 1 := Scalar.cmpi .eq c4_i32_16 c0_i32_17
  let c1_i32_18 : BitVec 32 := 1#32
  let v29 : BitVec 32 := Scalar.select v28 c1_i32_18 c4_i32_16
  let v30 : BitVec 32 := Scalar.remsi v27 v29
  let c0_i32_20 : BitVec 32 := 0#32
  let v32 : BitVec 1 := Scalar.cmpi .slt v30 c0_i32_20
  let c0_i32_21 : BitVec 32 := 0#32
  let v33 : BitVec 1 := Scalar.cmpi .slt v29 c0_i32_21
  let v34 : BitVec 1 := Scalar.xori v32 v33
  let c0_i32_19 : BitVec 32 := 0#32
  let v31 : BitVec 1 := Scalar.cmpi .ne v30 c0_i32_19
  let v35 : BitVec 1 := Scalar.andi v34 v31
  let v36 : BitVec 32 := Scalar.addi v30 v29
  let v37 : BitVec 32 := Scalar.select v35 v36 v30
  let c256_i32 : BitVec 32 := 256#32
  let v40 : BitVec 32 := Scalar.muli v37 c256_i32
  let v41 : Index := Scalar.indexCast v40
  ![0, v41.toNat]
def k0_off2 (d0 : Dev nD) : Fin 2 → Nat :=
  let c0_37 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_27 : BitVec 32 := 1#32
  let v52 : BitVec 32 := Scalar.addi v2 c1_i32_27
  let c4_i32_28 : BitVec 32 := 4#32
  let c0_i32_29 : BitVec 32 := 0#32
  let v53 : BitVec 1 := Scalar.cmpi .eq c4_i32_28 c0_i32_29
  let c1_i32_30 : BitVec 32 := 1#32
  let v54 : BitVec 32 := Scalar.select v53 c1_i32_30 c4_i32_28
  let v55 : BitVec 32 := Scalar.remsi v52 v54
  let c0_i32_32 : BitVec 32 := 0#32
  let v57 : BitVec 1 := Scalar.cmpi .slt v55 c0_i32_32
  let c0_i32_33 : BitVec 32 := 0#32
  let v58 : BitVec 1 := Scalar.cmpi .slt v54 c0_i32_33
  let v59 : BitVec 1 := Scalar.xori v57 v58
  let c0_i32_31 : BitVec 32 := 0#32
  let v56 : BitVec 1 := Scalar.cmpi .ne v55 c0_i32_31
  let v60 : BitVec 1 := Scalar.andi v59 v56
  let v61 : BitVec 32 := Scalar.addi v55 v54
  let v62 : BitVec 32 := Scalar.select v60 v61 v55
  let c256_i32_36 : BitVec 32 := 256#32
  let v65 : BitVec 32 := Scalar.muli v62 c256_i32_36
  let v66 : Index := Scalar.indexCast v65
  ![0, v66.toNat]
def k0_dev1 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_42 : BitVec 32 := 1#32
  let v78 : BitVec 32 := Scalar.muli v14 c1_i32_42
  let v79 : BitVec 32 := Scalar.addi c0_i32_43 v78
  v79.toNat
def k0_dev2 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_45 : BitVec 32 := 1#32
  let v80 : BitVec 32 := Scalar.muli v25 c1_i32_45
  let v81 : BitVec 32 := Scalar.addi c0_i32_46 v80
  v81.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_54 : BitVec 32 := 1#32
  let v82 : BitVec 32 := Scalar.muli v25 c1_i32_54
  let v83 : BitVec 32 := Scalar.addi c0_i32_55 v82
  v83.toNat
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_67 : BitVec 32 := 1#32
  let v92 : BitVec 32 := Scalar.muli v14 c1_i32_67
  let v93 : BitVec 32 := Scalar.addi c0_i32_68 v92
  v93.toNat
def k0_dev5 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_95 : BitVec 32 := 1#32
  let v128 : BitVec 32 := Scalar.muli v25 c1_i32_95
  let v129 : BitVec 32 := Scalar.addi c0_i32_96 v128
  v129.toNat
def k0_dev6 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v163 : BitVec 32 := Scalar.muli v14 c1_i32_121
  let v164 : BitVec 32 := Scalar.addi c0_i32_122 v163
  v164.toNat
def k0_off3 (d0 : Dev nD) (c0_i32_132 : BitVec 32) : Fin 2 → Nat :=
  let c0_142 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v179 : BitVec 32 := Scalar.addi v2 c8_i32
  let c2_i32_131 : BitVec 32 := 2#32
  let v180 : BitVec 32 := Scalar.subi v179 c2_i32_131
  let v181 : BitVec 32 := Scalar.subi v180 c0_i32_132
  let c4_i32_133 : BitVec 32 := 4#32
  let c0_i32_134 : BitVec 32 := 0#32
  let v182 : BitVec 1 := Scalar.cmpi .eq c4_i32_133 c0_i32_134
  let c1_i32_135 : BitVec 32 := 1#32
  let v183 : BitVec 32 := Scalar.select v182 c1_i32_135 c4_i32_133
  let v184 : BitVec 32 := Scalar.remsi v181 v183
  let c0_i32_137 : BitVec 32 := 0#32
  let v186 : BitVec 1 := Scalar.cmpi .slt v184 c0_i32_137
  let c0_i32_138 : BitVec 32 := 0#32
  let v187 : BitVec 1 := Scalar.cmpi .slt v183 c0_i32_138
  let v188 : BitVec 1 := Scalar.xori v186 v187
  let c0_i32_136 : BitVec 32 := 0#32
  let v185 : BitVec 1 := Scalar.cmpi .ne v184 c0_i32_136
  let v189 : BitVec 1 := Scalar.andi v188 v185
  let v190 : BitVec 32 := Scalar.addi v184 v183
  let v191 : BitVec 32 := Scalar.select v189 v190 v184
  let c256_i32_141 : BitVec 32 := 256#32
  let v193 : BitVec 32 := Scalar.muli v191 c256_i32_141
  let v194 : Index := Scalar.indexCast v193
  ![0, v194.toNat]
def k0_off4 (d0 : Dev nD) (c0_i32_148 : BitVec 32) : Fin 2 → Nat :=
  let c0_158 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_147 : BitVec 32 := 2#32
  let v206 : BitVec 32 := Scalar.addi v2 c2_i32_147
  let v207 : BitVec 32 := Scalar.addi v206 c0_i32_148
  let c4_i32_149 : BitVec 32 := 4#32
  let c0_i32_150 : BitVec 32 := 0#32
  let v208 : BitVec 1 := Scalar.cmpi .eq c4_i32_149 c0_i32_150
  let c1_i32_151 : BitVec 32 := 1#32
  let v209 : BitVec 32 := Scalar.select v208 c1_i32_151 c4_i32_149
  let v210 : BitVec 32 := Scalar.remsi v207 v209
  let c0_i32_153 : BitVec 32 := 0#32
  let v212 : BitVec 1 := Scalar.cmpi .slt v210 c0_i32_153
  let c0_i32_154 : BitVec 32 := 0#32
  let v213 : BitVec 1 := Scalar.cmpi .slt v209 c0_i32_154
  let v214 : BitVec 1 := Scalar.xori v212 v213
  let c0_i32_152 : BitVec 32 := 0#32
  let v211 : BitVec 1 := Scalar.cmpi .ne v210 c0_i32_152
  let v215 : BitVec 1 := Scalar.andi v214 v211
  let v216 : BitVec 32 := Scalar.addi v210 v209
  let v217 : BitVec 32 := Scalar.select v215 v216 v210
  let c256_i32_157 : BitVec 32 := 256#32
  let v219 : BitVec 32 := Scalar.muli v217 c256_i32_157
  let v220 : Index := Scalar.indexCast v219
  ![0, v220.toNat]
def k0_dev7 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_201 : BitVec 32 := 1#32
  let v248 : BitVec 32 := Scalar.muli v25 c1_i32_201
  let v249 : BitVec 32 := Scalar.addi c0_i32_202 v248
  v249.toNat
def k0_dev8 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_248 : BitVec 32 := 1#32
  let v280 : BitVec 32 := Scalar.muli v14 c1_i32_248
  let v281 : BitVec 32 := Scalar.addi c0_i32_249 v280
  v281.toNat
def k0_dev9 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_322 : BitVec 32 := 1#32
  let v353 : BitVec 32 := Scalar.muli v25 c1_i32_322
  let v354 : BitVec 32 := Scalar.addi c0_i32_323 v353
  v354.toNat
def k0_dev10 (d0 : Dev nD) : Nat :=
  let c0_i32_370 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_369 : BitVec 32 := 1#32
  let v385 : BitVec 32 := Scalar.muli v14 c1_i32_369
  let v386 : BitVec 32 := Scalar.addi c0_i32_370 v385
  v386.toNat
def k0_dev11 (d0 : Dev nD) : Nat :=
  let c0_i32_473 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_472 : BitVec 32 := 1#32
  let v499 : BitVec 32 := Scalar.muli v25 c1_i32_472
  let v500 : BitVec 32 := Scalar.addi c0_i32_473 v499
  v500.toNat
def k0_dev12 (d0 : Dev nD) : Nat :=
  let c0_i32_522 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_521 : BitVec 32 := 1#32
  let v531 : BitVec 32 := Scalar.muli v14 c1_i32_521
  let v532 : BitVec 32 := Scalar.addi c0_i32_522 v531
  v532.toNat
def k0_dev13 (d0 : Dev nD) : Nat :=
  let c0_i32_571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_570 : BitVec 32 := 1#32
  let v563 : BitVec 32 := Scalar.muli v25 c1_i32_570
  let v564 : BitVec 32 := Scalar.addi c0_i32_571 v563
  v564.toNat
def k0_dev14 (d0 : Dev nD) : Nat :=
  let c0_i32_620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_619 : BitVec 32 := 1#32
  let v595 : BitVec 32 := Scalar.muli v14 c1_i32_619
  let v596 : BitVec 32 := Scalar.addi c0_i32_620 v595
  v596.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Protocol.lean ====
/-
# The ring protocol of the kernel

Four devices stand on a ring. Each holds a block `x` of 1024 rows and 1024 columns and a block `dy` of 1024 rows and 4096 columns; the result of device `c` is rows `256 c … 256 c + 255` of
the sum over the devices of `xᵀ dy`. The columns of `dy` are cut into four strips of 1024; strip `r` travels its own ring, strips 0 and 1 to the right, strips 2 and 3 to the left. A partial sum
makes three hops; before the first and after each, the device that holds it adds its own product.

Who waits, who pays, how much, what is handed over:

* the barrier of device `c`: one unit from each neighbour. The neighbour hands over the landing slots that `c` will write on it: the right neighbour those of the strips that go right, the left
  neighbour those of the strips that go left. `c` waits for two units before its first copy.
* the send semaphore of strip `r`, hop `s` on device `c`: paid by the copy itself, handing back the slot it was read from, contents as sent.
* the receive semaphore of strip `r`, hop `s` on device `c`: paid by the copy of the device before it on that ring, handing over the landing slot that holds that device's partial sum after
  `s` hops.

Every slot and every semaphore serves one copy. A wait on a receive semaphore of hop `s` happens while the device owes only copies of later hops: the order of the waits is by hop.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring.FamCut
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's part and the ring's, duty names `Bool` -/

/-- The ring's rounds, and the whole algebra. -/
abbrev UB : Type := URounds (GSem nD τ sig) Bool
@[inherit_doc UB] abbrev UU : Type := UR sig nD τ × UB

local notation "𝕄" => MT nD τ sig Unit (Elt F) ℕ UU ℕ

/-- Where the two parts lie in it. -/
abbrev EP : Emb (UR sig nD τ) (MT nD τ sig Unit (Elt F) ℕ UU ℕ) := embL
@[inherit_doc EP] abbrev ER : Emb UB (MT nD τ sig Unit (Elt F) ℕ UU ℕ) := embR

/-! ## The ring -/

set_option backward.proofsInPublic true in
/-- The device to the right. -/
def nxt (c : Dev nD) : Dev nD := ⟨(c.val + 1) % 4, Nat.mod_lt _ (by decide)⟩
set_option backward.proofsInPublic true in
/-- The device to the left. -/
def prv (c : Dev nD) : Dev nD := ⟨(c.val + 3) % 4, Nat.mod_lt _ (by decide)⟩

/-- The neighbour on a side: `true` is right. -/
def nb : Bool → Dev nD → Dev nD
  | true => nxt
  | false => prv

/-- The neighbour on one side of the neighbour on the other side is the device. -/
theorem nb_nb : ∀ (b : Bool) (c : Dev nD), nb (!b) (nb b c) = c := by decide

/-- Stepping to one side permutes the devices. -/
def nbEquiv (b : Bool) : Dev nD ≃ Dev nD :=
  ⟨nb b, nb (!b), nb_nb b, fun c => by have := nb_nb (!b) c; rwa [Bool.not_not] at this⟩

/-- A strip and a hop: one copy per device. -/
abbrev Lane : Type := Fin 4 × Fin 3

/-- Which way a strip travels: strips 0 and 1 go right. -/
def dir (r : Fin 4) : Bool := decide (r.val < 2)

/-- The device a strip's copies go to, -/
def dst (r : Fin 4) (c : Dev nD) : Dev nD := nb (dir r) c
/-- and the one they come from. -/
def frm (r : Fin 4) (c : Dev nD) : Dev nD := nb (!dir r) c

/-- Sending and then looking back leads home, both ways round. -/
theorem frm_dst (r : Fin 4) (c : Dev nD) : frm r (dst r c) = c := nb_nb _ c
@[inherit_doc frm_dst] theorem dst_frm (r : Fin 4) (c : Dev nD) : dst r (frm r c) = c := by
  have := nb_nb (!dir r) c; rwa [Bool.not_not] at this

set_option backward.proofsInPublic true in
/-- The block of rows of the result that the partial sum on strip `r`, `k` hops done, on device `c`, is for. -/
def tgt (r : Fin 4) (k : ℕ) (c : Dev nD) : Dev nD :=
  if dir r then ⟨(c.val + 7 - k) % 4, Nat.mod_lt _ (by decide)⟩ else ⟨(c.val + 1 + k) % 4, Nat.mod_lt _ (by decide)⟩

/-! ## Memrefs -/

/-- The buffers of the body, whole: the two arguments, the result, the bf16 copy of `dy`, the staging scratch and the landing scratch. -/
abbrev xM : Memref sig .tc .vmem S1024x1024 .f32 := Memref.whole cc0_stg0_0
@[inherit_doc xM] abbrev dM : Memref sig .tc .vmem S1024x4096 .f32 := Memref.whole cc0_stg1_0
@[inherit_doc xM] abbrev oM : Memref sig .tc .vmem S256x4096 .f32 := Memref.whole cc0_stg2_0
@[inherit_doc xM] abbrev bM : Memref sig .tc .vmem S1024x4096 .bf16 := Memref.whole cc0_scratch0
@[inherit_doc xM] abbrev sM : Memref sig .tc .vmem S4x256x1024 .bf16 := Memref.whole cc0_scratch1
@[inherit_doc xM] abbrev cM : Memref sig .tc .vmem S4x3x256x1024 .bf16 := Memref.whole cc0_scratch2

set_option backward.proofsInPublic true in
/-- The rectangles and semaphores of the strips and hops lie inside their arrays. -/
theorem inb_stg : ∀ (r : Fin 4), ∀ a, (![r.val, 0, 0] : Fin 3 → Nat) a + S1x256x1024.size a ≤ S4x256x1024.size a := by decide
set_option backward.proofsInPublic true in
@[inherit_doc inb_stg] theorem inb_com : ∀ (j : Lane), ∀ a, (![j.1.val, j.2.val, 0, 0] : Fin 4 → Nat) a + S1x1x256x1024.size a ≤ S4x3x256x1024.size a := by decide
set_option backward.proofsInPublic true in
@[inherit_doc inb_stg] theorem inb_sem : ∀ (j : Lane), ∀ a, (![j.1.val, j.2.val] : Fin 2 → Nat) a + S1x1.size a ≤ S4x3.size a := by decide

/-- The rectangle of strip `r` in the staging scratch, and of strip and hop `j` in the landing scratch. -/
abbrev stgR (r : Fin 4) : Rect S4x256x1024 := Rect.unit (s := S4x256x1024) ![r.val, 0, 0] S1x256x1024.size (inb_stg r)
@[inherit_doc stgR] abbrev comR (j : Lane) : Rect S4x3x256x1024 := Rect.unit (s := S4x3x256x1024) ![j.1.val, j.2.val, 0, 0] S1x1x256x1024.size (inb_com j)

/-- The staging slot of strip `r`, -/
abbrev stgS (r : Fin 4) : Memref sig .tc .vmem S256x1024 .bf16 :=
  (sM.slice (stgR r) (fun _ => rfl)).squeeze S256x1024 squeezes_S1x256x1024_S256x1024
/-- the landing slot of strip and hop `j`, -/
abbrev comS (j : Lane) : Memref sig .tc .vmem S256x1024 .bf16 :=
  (cM.slice (comR j) (fun _ => rfl)).squeeze S256x1024 squeezes_S1x1x256x1024_S256x1024
/-- and the slot the copy `j` reads: the staging slot at the first hop, then the landing slot of the hop before. -/
abbrev srcS (j : Lane) : Memref sig .tc .vmem S256x1024 .bf16 :=
  match j with
  | (r, ⟨0, _⟩) => stgS r
  | (r, ⟨k + 1, h⟩) => comS (r, ⟨k, Nat.lt_of_succ_lt h⟩)

/-! ## Semaphores -/

/-- The barrier semaphore, the send semaphore and the receive semaphore of copy `j`. -/
abbrev barS : Sem sig := (SemArray.scalar (sig.barrier 0 rfl) : Sems sig S_).sem
@[inherit_doc barS] abbrev sendS (j : Lane) : DmaSem sig :=
  (((cc0_scratch3 : DmaSems sig S4x3).slice (Rect.unit (s := S4x3) ![j.1.val, j.2.val] S1x1.size (inb_sem j))).squeeze S_ squeezes_S1x1_S_).sem
@[inherit_doc barS] abbrev recvS (j : Lane) : DmaSem sig :=
  (((cc0_scratch4 : DmaSems sig S4x3).slice (Rect.unit (s := S4x3) ![j.1.val, j.2.val] S1x1.size (inb_sem j))).squeeze S_ squeezes_S1x1_S_).sem

/-- A device's cells: its barrier, and per copy a send (`false`) and a receive (`true`) cell. -/
abbrev Key : Type := Option (Bool × Lane)

/-- The semaphore under a key. -/
abbrev csem : Key → SemLoc sig
  | none => .reg barS
  | some (false, j) => .dma (sendS j)
  | some (true, j) => .dma (recvS j)

/-- A device's cell under a key. -/
abbrev kcell (ck : Dev nD × Key) : GSem nD τ sig := ((ck.1 : Thread nD τ), csem ck.2)

set_option backward.proofsInPublic true in
/-- Strip and hop from their number. -/
def laneOf (n : ℕ) : Lane := (⟨n / 3 % 4, Nat.mod_lt _ (by decide)⟩, ⟨n % 3, Nat.mod_lt _ (by decide)⟩)

/-- The key of a semaphore, if it is one of the ring's. -/
def keyOf : SemLoc sig → Option Key
  | .reg _ => some none
  | .dma q => if q.val < 3 then none else if q.val < 15 then some (some (false, laneOf (q.val - 3))) else some (some (true, laneOf (q.val - 15)))

/-- The numbers of the semaphores of copy `j`. -/
theorem sendS_val : ∀ j : Lane, (sendS j).val = 3 + 3 * j.1.val + j.2.val := by decide +kernel
@[inherit_doc sendS_val] theorem recvS_val : ∀ j : Lane, (recvS j).val = 15 + 3 * j.1.val + j.2.val := by decide +kernel

/-- A key is found again from its semaphore, -/
theorem keyOf_csem : ∀ k : Key, keyOf (csem k) = some k := by decide +kernel

/-- so that different keys have different semaphores, -/
theorem csem_injective : Function.Injective csem := fun a b h => by
  have := congrArg keyOf h; rw [keyOf_csem, keyOf_csem] at this; exact Option.some.inj this

/-- and different devices and keys different cells. -/
theorem kcell_injective : Function.Injective (kcell : Dev nD × Key → GSem nD τ sig) := fun a b h =>
  Prod.ext (congrArg (fun g : GSem nD τ sig => g.1.1) h) (csem_injective (congrArg Prod.snd h))

/-- The units of one copy. -/
abbrev N : ℕ := (comS (0, 0)).view.dmaCredit
/-- A copy moves something, -/
theorem N_pos : 0 < N := View.dmaCredit_pos _ (by decide)

/-- and every slot is of that size. -/
theorem credit_com (j : Lane) : (comS j).view.dmaCredit = N := rfl
@[inherit_doc credit_com] theorem credit_src : ∀ j : Lane, (srcS j).view.dmaCredit = N
  | (r, ⟨0, _⟩) => rfl
  | (r, ⟨k + 1, h⟩) => rfl

/-! ## Contents -/

section Contents

variable (xs : Dev nD → Vec F S1024x1024 .f32) (ds : Dev nD → Vec F S1024x4096 .f32)

set_option backward.proofsInPublic true in
/-- The blocks of columns of `x` and the strips of `dy` lie inside their arrays. -/
theorem inb_chunk : ∀ (q : Dev nD), ∀ a, (![0, q.val * 256] : Fin 2 → Nat) a + S1024x256.size a ≤ S1024x1024.size a := by decide
@[inherit_doc inb_chunk] theorem slices_strip : ∀ (r : Fin 4), S1024x4096.Slices ![0, 1024 * r.val] S1024x1024 := by decide

/-- The columns of a block of `x` that make rows `256 q … 256 q + 255` of the result. -/
def xcol (X : Vec F S1024x1024 .f32) (q : Dev nD) : Vec F S1024x256 .f32 :=
  (xM : Memref sig .tc .vmem S1024x1024 .f32).view.readAt (Elt F) (Rect.unit (s := S1024x1024) ![0, q.val * 256] S1024x256.size (inb_chunk q)).toLoadRect X

/-- Strip `r` of the 4096 columns. -/
def strip {α : Type} (r : Fin 4) (D : S1024x4096.Idx → α) : S1024x1024.Idx → α :=
  extractStridedSlice S1024x1024 ![0, 1024 * r.val] D (slices_strip r)

/-- A device's block of `dy` in bf16. -/
def half (D : Vec F S1024x4096 .f32) : Vec F S1024x4096 .bf16 := truncf (φ := .f32) .bf16 D

/-- A device's own product for strip `r` and the block `q` of rows: `q`'s columns of `x`, transposed, times the strip of `dy`, both in bf16. -/
def part (r : Fin 4) (X : Vec F S1024x1024 .f32) (q : Dev nD) (D : Vec F S1024x4096 .bf16) : FVec F S256x1024 .f32 :=
  matmul dot_S1024x256_S1024x1024_S256x1024_0_0_1_1_n_n none (truncf (φ := .f32) .bf16 (xcol X q)) (strip r D) (constant S256x1024 .f32 0x00000000#32)

/-- The partial sum of strip `r` on device `c` once it has come over `k` hops and `c` has added its product: what comes in is the bf16 of the sum on the device before. -/
def acc (r : Fin 4) : ℕ → Dev nD → FVec F S256x1024 .f32
  | 0, c => part r (xs c) (tgt r 0 c) (half (ds c))
  | k + 1, c => addf (extf .f32 (truncf (φ := .f32) .bf16 (acc r k (frm r c)))) (part r (xs c) (tgt r (k + 1) c) (half (ds c)))

/-- What copy `j` of device `c` carries. -/
def sent (j : Lane) (c : Dev nD) : Vec F S256x1024 .bf16 := truncf (φ := .f32) .bf16 (acc xs ds j.1 j.2.val c)

/-- The kernel's result on device `c`, by columns: strip `r` is the sum that came over three hops. -/
def outAt (c : Dev nD) : Vec F S256x4096 .f32 := fun i =>
  acc xs ds ⟨(i 1).val / 1024, Nat.div_lt_of_lt_mul (i 1).isLt⟩ 3 c
    (Fin.cons (i 0) (Fin.cons ⟨(i 1).val % 1024, Nat.mod_lt _ (by decide)⟩ finZeroElim))

end Contents

/-! ## The schedule -/

section Sched

variable (xs : Dev nD → Vec F S1024x1024 .f32) (ds : Dev nD → Vec F S1024x4096 .f32)

/-- A slot of device `c` held whole, at contents `v`; -/
abbrev slot (c : Dev nD) (M : Memref sig .tc .vmem S256x1024 .bf16) (v : Vec F S256x1024 .bf16) : sProp 𝕄 :=
  owns (c : Thread nD τ) M fullShare v
/-- and at some contents. -/
abbrev slotAny (c : Dev nD) (M : Memref sig .tc .vmem S256x1024 .bf16) : sProp 𝕄 := iprop(∃ v, slot (F := F) c M v)

/-- The copies that go one way. -/
def lanes (b : Bool) : Finset Lane := Finset.univ.filter fun j => dir j.1 = b

/-- What the neighbour on side `b` hands device `c` through `c`'s barrier: the landing slots there of the strips that travel that way. -/
def barPay (b : Bool) (c : Dev nD) : sProp 𝕄 := bigSep (lanes b) fun j => slotAny (F := F) (nb b c) (comS j)

/-- The one round of every cell: a barrier has a unit from the neighbour on either side, a send or receive cell the units of its copy. -/
def sched : Rounds.Schedule (GSem nD τ sig) Bool 𝕄 where
  duties g r := if r = 0 ∧ g.1.2 = .tc then (match keyOf g.2 with | some none => Finset.univ | some (some _) => {false} | none => ∅) else ∅
  unitless _ := False
  amount g _ _ := match keyOf g.2 with | some none => 1 | _ => N
  payload g _ d := match keyOf g.2 with
    | some none => barPay (F := F) d g.1.1
    | some (some (false, j)) => slot g.1.1 (srcS j) (sent xs ds j g.1.1)
    | some (some (true, j)) => slot g.1.1 (comS j) (sent xs ds j (frm j.1 g.1.1))
    | none => iprop(emp)
  amount_pos g _ _ _ := by split; exacts [Nat.one_pos, N_pos]

/-- What is handed over may be kept in an invariant. -/
instance sched_storable (g : GSem nD τ sig) (r : ℕ) (d : Bool) :
    BI.Storable (upEmb : UEmb _ 𝕄) ((sched (F := F) xs ds).payload g r d) := by
  show BI.Storable upEmb (match keyOf g.2 with
    | some none => barPay (F := F) d g.1.1
    | some (some (false, j)) => slot g.1.1 (srcS j) (sent xs ds j g.1.1)
    | some (some (true, j)) => slot g.1.1 (comS j) (sent xs ds j (frm j.1 g.1.1))
    | none => iprop(emp))
  unfold barPay
  split <;> infer_instance

variable (c : Dev nD) (b d : Bool) (j : Lane)

/-- A barrier expects a unit from either side, every other cell one copy, in the first round and in no other. -/
theorem duties_bar : (sched (F := F) xs ds).duties (kcell (c, none)) 0 = Finset.univ := by
  dsimp only [sched]; rw [if_pos ⟨rfl, rfl⟩, keyOf_csem]
@[inherit_doc duties_bar] theorem duties_copy : (sched (F := F) xs ds).duties (kcell (c, some (b, j))) 0 = {false} := by
  dsimp only [sched]; rw [if_pos ⟨rfl, rfl⟩, keyOf_csem]
@[inherit_doc duties_bar] theorem duties_later (g : GSem nD τ sig) : ∀ r, 1 ≤ r → (sched (F := F) xs ds).duties g r = ∅ :=
  fun r hr => by dsimp only [sched]; rw [if_neg fun h => by omega]
/-- The units of each duty, and of the whole round. -/
theorem amount_bar : (sched (F := F) xs ds).amount (kcell (c, none)) 0 d = 1 := by dsimp only [sched]; rw [keyOf_csem]
@[inherit_doc amount_bar] theorem amount_copy : (sched (F := F) xs ds).amount (kcell (c, some (b, j))) 0 d = N := by dsimp only [sched]; rw [keyOf_csem]
@[inherit_doc amount_bar] theorem expect_bar : (sched (F := F) xs ds).expect (kcell (c, none)) 0 = 2 := by
  unfold Schedule.expect Schedule.amountOf
  rw [duties_bar, Finset.sum_congr rfl fun d _ => amount_bar xs ds c d, Finset.sum_const, Finset.card_univ, Fintype.card_bool, smul_eq_mul]
@[inherit_doc amount_bar] theorem expect_copy : (sched (F := F) xs ds).expect (kcell (c, some (b, j))) 0 = N := by
  unfold Schedule.expect Schedule.amountOf; rw [duties_copy, Finset.sum_singleton, amount_copy]
/-- What each duty hands over. -/
theorem payload_bar : (sched (F := F) xs ds).payload (kcell (c, none)) 0 d = barPay d c := by dsimp only [sched]; rw [keyOf_csem]
@[inherit_doc payload_bar] theorem payload_send : (sched (F := F) xs ds).payload (kcell (c, some (false, j))) 0 d = slot c (srcS j) (sent xs ds j c) := by
  dsimp only [sched]; rw [keyOf_csem]
@[inherit_doc payload_bar] theorem payload_recv : (sched (F := F) xs ds).payload (kcell (c, some (true, j))) 0 d = slot c (comS j) (sent xs ds j (frm j.1 c)) := by
  dsimp only [sched]; rw [keyOf_csem]

/-- The whole round of a barrier: what both neighbours hand over. -/
theorem rest_bar : bigSep ((sched (F := F) xs ds).duties (kcell (c, none)) 0 \ ∅) (fun d => (sched (F := F) xs ds).payload (kcell (c, none)) 0 d)
    = iprop(barPay (F := F) false c ∗ barPay (F := F) true c) := by
  rw [Finset.sdiff_empty, duties_bar, bigSep_univ_eq_bigSepL [false, true] (by decide) (by decide), bigSepL_cons_cons, bigSepL_singleton,
    payload_bar, payload_bar]
  rfl
/-- The whole round of a send cell, -/
theorem rest_send : bigSep ((sched (F := F) xs ds).duties (kcell (c, some (false, j))) 0 \ ∅)
    (fun d => (sched (F := F) xs ds).payload (kcell (c, some (false, j))) 0 d) = slot c (srcS j) (sent xs ds j c) := by
  rw [Finset.sdiff_empty, duties_copy, bigSep_singleton, payload_send]
/-- and of a receive cell. -/
theorem rest_recv : bigSep ((sched (F := F) xs ds).duties (kcell (c, some (true, j))) 0 \ ∅)
    (fun d => (sched (F := F) xs ds).payload (kcell (c, some (true, j))) 0 d) = slot c (comS j) (sent xs ds j (frm j.1 c)) := by
  rw [Finset.sdiff_empty, duties_copy, bigSep_singleton, payload_recv]

end Sched

/-! ## What a device owes, and the order of the waits -/

/-- The receive cell that copy `j` of device `c` pays. -/
abbrev recvTo (j : Lane) (c : Dev nD) : GSem nD τ sig := kcell (dst j.1 c, some (true, j))

/-- What device `c` owes while the copies of a list are still to be started, the first of the list last in the sum. -/
def owed (c : Dev nD) : List Lane → CellTallies nD τ sig Unit
  | [] => 0
  | j :: l => owed c l + tallyAt (recvTo j c) () N

/-- The copies in the order in which a device starts them. -/
def order : List Lane := [(0, 0), (2, 0), (1, 0), (3, 0), (0, 1), (2, 1), (1, 1), (3, 1), (0, 2), (2, 2), (1, 2), (3, 2)]

/-- What device `c` owes at launch: the copies and, ahead of them, the units of its right and of its left neighbour's barrier. -/
def O₀ (c : Dev nD) : CellTallies nD τ sig Unit :=
  owed c order + tallyAt (kcell (nxt c, none)) () 1 + tallyAt (kcell (prv c, none)) () 1

/-- The tensor cores' cells have one level each, -/
def L (g : GSem nD τ sig) : Finset Unit := if g.1.2 = .tc then {()} else ∅
/-- Barriers at 1, receive cells of hop `s` at `2 + s`, everything else at 0. -/
def lv (g : GSem nD τ sig) (_ : Unit) : ℕ := match keyOf g.2 with
  | some none => 1
  | some (some (true, j)) => 2 + j.2.val
  | _ => 0

/-- no others have any. -/
theorem L_of_ne (g : GSem nD τ sig) (h : g.1.2 ≠ .tc) : L g = ∅ := if_neg h
@[inherit_doc L_of_ne] theorem L_tc (c : Dev nD) (sm : SemLoc sig) : L ((c : Thread nD τ), sm) = {()} := if_pos rfl

/-- The levels, cell by cell. -/
theorem lv_bar (c : Dev nD) (u : Unit) : lv (kcell (c, none)) u = 1 := by dsimp only [lv]; rw [keyOf_csem]
@[inherit_doc lv_bar] theorem lv_send (c : Dev nD) (j : Lane) (u : Unit) : lv (kcell (c, some (false, j))) u = 0 := by dsimp only [lv]; rw [keyOf_csem]
@[inherit_doc lv_bar] theorem lv_recv (c : Dev nD) (j : Lane) (u : Unit) : lv (kcell (c, some (true, j))) u = 2 + j.2.val := by dsimp only [lv]; rw [keyOf_csem]

/-- A cell is owed only by a copy of the list. -/
theorem owed_pos {c : Dev nD} {l : List Lane} {g : GSem nD τ sig} {u : Unit} (h : 0 < owed c l g u) : ∃ j ∈ l, g = recvTo j c := by
  induction l with
  | nil => exact absurd h (Nat.lt_irrefl 0)
  | cons j l ih =>
    rw [owed, Pi.add_apply, Finsupp.add_apply] at h
    rcases Nat.add_pos_iff_pos_or_pos.mp h with h | h
    · obtain ⟨j', hj', e⟩ := ih h; exact ⟨j', List.mem_cons_of_mem _ hj', e⟩
    · exact ⟨j, List.mem_cons_self, (Pipeline.tallyAt_pos h).1⟩

/-- A wait below every copy that the device still owes. -/
theorem mayWait_owed (c : Dev nD) (k : SemLoc sig) (n : ℕ) (hk : lv ((c : Thread nD τ), k) () ≤ n) (l : List Lane) (hl : ∀ j ∈ l, n < 2 + j.2.val) :
    (levAts L lv : sProp 𝕄) ⊢ MayWait (c : Thread nD τ) k () (owed c l) :=
  MayOwe.of_cut (L := L) (lev := lv) n (fun p hp => by rw [Finset.mem_singleton.mp hp, L_tc]; exact Finset.mem_singleton_self _)
    (fun g u hg => by obtain ⟨j, -, rfl⟩ := owed_pos hg; rw [L_tc]; exact Finset.mem_singleton_self _)
    (fun p hp => by rw [Finset.mem_singleton.mp hp]; exact hk)
    (fun g u hg => by obtain ⟨j, hj, rfl⟩ := owed_pos hg; rw [lv_recv]; exact hl j hj)

/-- A wait of the pipeline's own, at launch or at the end. -/
theorem mayWait_stage (c : Dev nD) (k : SemLoc sig) (hk : keyOf k = none) (O : CellTallies nD τ sig Unit) (hO : O = O₀ c ∨ O = 0) :
    (levAts L lv : sProp 𝕄) ⊢ MayWait (c : Thread nD τ) k () O := by
  have hpos {g : GSem nD τ sig} {u : Unit} (h : 0 < O₀ c g u) : ∃ ck : Dev nD × Key, g = kcell ck ∧ 0 < lv (kcell ck) () := by
    unfold O₀ at h
    rw [Pi.add_apply, Finsupp.add_apply, Pi.add_apply, Finsupp.add_apply] at h
    rcases Nat.add_pos_iff_pos_or_pos.mp h with h | h
    · rcases Nat.add_pos_iff_pos_or_pos.mp h with h | h
      · obtain ⟨j, -, rfl⟩ := owed_pos h; exact ⟨_, rfl, by rw [lv_recv]; omega⟩
      · exact ⟨_, (Pipeline.tallyAt_pos h).1, by rw [lv_bar]; exact Nat.one_pos⟩
    · exact ⟨_, (Pipeline.tallyAt_pos h).1, by rw [lv_bar]; exact Nat.one_pos⟩
  rcases hO with rfl | rfl
  · refine MayOwe.of_cut (L := L) (lev := lv) 0 (fun p hp => by rw [Finset.mem_singleton.mp hp, L_tc]; exact Finset.mem_singleton_self _)
      (fun g u hg => by obtain ⟨ck, rfl, -⟩ := hpos hg; rw [L_tc]; exact Finset.mem_singleton_self _)
      (fun p hp => by rw [Finset.mem_singleton.mp hp]; dsimp only [lv]; rw [hk])
      (fun g u hg => by obtain ⟨ck, rfl, h⟩ := hpos hg; exact h)
  · rw [MayWait_zero]; iintro -; iempintro

end Cert.RingProof

end
-- ==== Proof.Lanes.lean ====
/-
# One rule per operation of the kernel's body

Each of the kernel's copies, waits, loads and stores as a rule at a symbolic device, strip and hop: what it takes, and what the rest of the body may count on afterwards.
-/
module

public import proofs.«01_k».proof.Proof.Protocol

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel has no loops that need a variant. -/
abbrev 𝒱₀ : Variants := Variants.none

section Rules

variable (xs : Dev nD → Vec F S1024x1024 .f32) (ds : Dev nD → Vec F S1024x4096 .f32) (K : Dev nD × Key → ℕ)

/-- What every device knows throughout: the invariant of every cell, that every cell has begun its round, the levels. -/
def known : sProp 𝕄 :=
  iprop((bigSep Finset.univ fun ck : Dev nD × Key => cellInv ER (sched xs ds) (K ck) (kcell ck))
    ∗ (bigSep Finset.univ fun ck : Dev nD × Key => reached ER (kcell ck) 0) ∗ levAts L lv)

/-- It may be used as often as wanted: -/
instance known_persistent : BI.Persistent (known xs ds K) := by unfold known; infer_instance

/-- for the invariant of each cell, -/
theorem known_inv (ck : Dev nD × Key) : known xs ds K ⊢ cellInv ER (sched xs ds) (K ck) (kcell ck) := by
  have h : (bigSep Finset.univ fun ck : Dev nD × Key => (cellInv ER (sched xs ds) (K ck) (kcell ck) : sProp 𝕄)) ⊢ cellInv ER (sched xs ds) (K ck) (kcell ck) :=
    bigSep_elim (Finset.mem_univ ck)
  unfold known; iintro ⟨H, -, -⟩
  iapply h; iexact H
/-- for its having begun its round, -/
theorem known_reached (ck : Dev nD × Key) : known xs ds K ⊢ reached ER (kcell ck) 0 := by
  have h : (bigSep Finset.univ fun ck : Dev nD × Key => (reached ER (kcell ck) 0 : sProp 𝕄)) ⊢ reached ER (kcell ck) 0 :=
    bigSep_elim (Finset.mem_univ ck)
  unfold known; iintro ⟨-, H, -⟩
  iapply h; iexact H
/-- and for the levels. -/
theorem known_lev : known xs ds K ⊢ levAts L lv := by
  unfold known; iintro ⟨-, -, H⟩; iexact H

/-- Device `c` owes `O`, whatever waits it has done. -/
def owing (c : Dev nD) (O : CellTallies nD τ sig Unit) : sProp 𝕄 := iprop(∃ W : Waits sig Unit, owes (c : Thread nD τ) O W)

/-- The device's places in the two cells of copy `j`, and the credit of what comes in. -/
def places (j : Lane) (c : Dev nD) : sProp 𝕄 :=
  iprop(atPos ER (kcell (c, some (false, j))) 0 ∅ 0 ∗ atPos ER (kcell (c, some (true, j))) 0 ∅ 0 ∗ cred (tallyAt (kcell (c, some (true, j))) () N))
/-- The right to pay the two cells of copy `j`. -/
def rights (j : Lane) (c : Dev nD) : sProp 𝕄 :=
  iprop(dutyTok ER (kcell (c, some (false, j))) 0 false ∗ dutyTok ER (recvTo j c) 0 false)
/-- Copy `j` may start: the rights, the places and the slot it lands in. -/
def ready (j : Lane) (c : Dev nD) : sProp 𝕄 := iprop((rights j c ∗ places j c) ∗ slotAny (F := F) (dst j.1 c) (comS j))
/-- Copy `j` under way. -/
def flying (j : Lane) (c : Dev nD) : sProp 𝕄 := iprop(cred (tallyAt (kcell (c, some (false, j))) () N) ∗ places j c)
/-- Copy `j` read off its source, the one that comes in still awaited. -/
def landing (j : Lane) (c : Dev nD) : sProp 𝕄 :=
  iprop(atPos ER (kcell (c, some (true, j))) 0 ∅ 0 ∗ cred (tallyAt (kcell (c, some (true, j))) () N))

/-- Start copy `j`. -/
theorem wp_copy (j : Lane) (c n : Dev nD) (hn : n = dst j.1 c) (l : List Lane)
    {hsc : (comS j : Memref sig (Dev.tc n : Thread nD τ).2.kind .vmem S256x1024 .bf16).view.ref.isScScratch = false}
    {hsrc : (srcS j).view.WordExact} {hdst : (comS j).view.WordExact}
    {hsem : DmaTarget.Typed .vmem (.dma (recvS j)) (.remote (Dev.tc n : Thread nD τ) (comS j) (.dma (sendS j)) hsc)}
    {α : Type} {Kt : α → sProp 𝕄} {k : PUnit → Prog (TpuEff nD τ sig (Elt F) Λ₀ .tc) α} :
    iprop(known xs ds K ∗ ready j c ∗ slot c (srcS j) (sent xs ds j c) ∗ owing c (owed c (j :: l)))
      ⊢ iprop(((flying j c ∗ owing c (owed c l)) -∗ wp frame (wpE (defs₀ (F := F)) 𝒱₀ (c : Thread nD τ) none) Set.univ (k ⟨⟩) Kt)
          -∗ wp frame (wpE (defs₀ (F := F)) 𝒱₀ (c : Thread nD τ) none) Set.univ
              (.op (.enqueueDma (srcS j) (.remote (Dev.tc n : Thread nD τ) (comS j) (.dma (sendS j)) hsc) (.dma (recvS j)) hsrc hdst hsem) k) Kt) := by
  subst hn
  unfold ready rights flying owing slotAny slot owns
  iintro ⟨#HK, ⟨⟨⟨HtS, HtV⟩, Hpl⟩, ⟨%v, %fd, %hfd, Hd⟩⟩, ⟨%fs, %hfs, Hs⟩, ⟨%W, HO⟩⟩ Hk
  iapply (Rounds.wp_send_pointsTo 𝒱₀ ER (sched xs ds) (c : Thread nD τ) none (κ₁ := K (c, some (false, j))) (κ₂ := K (dst j.1 c, some (true, j)))
    (sS := .dma (sendS j)) (sem := .dma (recvS j)) (c' := (dst j.1 c : Thread nD τ))
    (r₁ := 0) (r₂ := 0) (d₁ := false) (d₂ := false) (fs := fs) (fd := fd) (q := fullShare)
    ((duties_copy xs ds c false j).symm ▸ Finset.mem_singleton_self _) ((duties_copy xs ds (dst j.1 c) true j).symm ▸ Finset.mem_singleton_self _)
    () () N (credit_com j) (amount_copy xs ds c false false j) (amount_copy xs ds (dst j.1 c) true false j) (owed c l) rfl (W := W)
    (by rw [payload_send]; unfold slot owns; iintro H; iexists fs; isplitr; · (ipureintro; exact hfs)
        iexact H)
    (by rw [payload_recv, frm_dst]; unfold slot owns; iintro H; iexists _; isplitr; rotate_left
        · iexact H
        · ipureintro; rw [View.read_write_univ]; exact hfs)) $$ [Hs Hd HO HtS HtV]
  · isplitr; · iapply (known_inv xs ds K (c, some (false, j))); iexact HK
    isplitr; · iapply (known_inv xs ds K (dst j.1 c, some (true, j))); iexact HK
    isplitl [Hs]; · iexact Hs
    isplitl [Hd]; · iexact Hd
    isplitl [HO]; · iexact HO
    isplitl [HtS]; · iexact HtS
    isplitr; · iapply (known_reached xs ds K (c, some (false, j))); iexact HK
    isplitl [HtV]; · iexact HtV
    iapply (known_reached xs ds K (dst j.1 c, some (true, j))); iexact HK
  iintro ⟨Hc, HO⟩
  iapply Hk
  isplitl [Hc Hpl]
  · isplitl [Hc] <;> iassumption
  iexists W; iexact HO

/-- Wait until copy `j` has been read off its source: the source slot comes back as it was sent, and the send cell is done with. -/
theorem wp_wait_send (j : Lane) (c : Dev nD) (l : List Lane) {sp' : Space} {s' : Shape} {e' : EltTy} {src : Memref sig .tc sp' s' e'} {M : Memref sig .tc .vmem S256x1024 .bf16}
    (hM : M = srcS j)
    {hsrc : src.view.WordExact} {hdst : M.view.WordExact}
    {α : Type} {Kt : α → sProp 𝕄} {k : PUnit → Prog (TpuEff nD τ sig (Elt F) Λ₀ .tc) α} :
    iprop(known xs ds K ∗ flying j c ∗ owing c (owed c l))
      ⊢ iprop(((landing j c ∗ slot c (srcS j) (sent xs ds j c) ∗ semVal (kcell (c, some (false, j))) 0 ∗ owing c (owed c l))
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 (sendS j) src M hsrc hdst) k) Kt) := by
  subst hM
  unfold flying places landing owing
  iintro ⟨#HK, ⟨Hc, HaS, HaV, HcV⟩, ⟨%W, HO⟩⟩ Hk
  iapply (Rounds.wp_wait_rest_token 𝒱₀ ER (sched xs ds) (c : Thread nD τ) none (κ := K (c, some (false, j))) (sm := .dma (sendS j)) (k' := N)
    (fun Kc => (wpE_waitDma2_eq 𝒱₀ (c : Thread nD τ) none Set.univ Kc).trans (by rw [credit_src j])) (Set.mem_univ _) () (O := owed c l) (W := W) (R := 0) (m := 0) (T := ∅)
    (by rw [Nat.zero_add]; exact (expect_copy xs ds c false j).symm)) $$ [Hc HO HaS]
  · isplitr; · iapply (known_inv xs ds K (c, some (false, j))); iexact HK
    isplitl [Hc]; · iexact Hc
    isplitl [HO]; · iexact HO
    isplitr
    · iapply (mayWait_owed (F := F) c (.dma (sendS j)) 0 (le_of_eq (lv_send c j ())) l (fun j _ => by omega))
      iapply (known_lev xs ds K); iexact HK
    iexact HaS
  iintro ⟨HO, HaS, -, Hp⟩
  ihave Hp := (Entails.of_eq (rest_send xs ds c j)) $$ Hp
  imod (Rounds.cell_close ER (sched xs ds) (Set.mem_univ (K (c, some (false, j)))) (fun h => h) (R := 0 + 1)
    (duties_later xs ds (kcell (c, some (false, j))))) $$ [HaS] with Hz
  · isplitr; · iapply (known_inv xs ds K (c, some (false, j))); iexact HK
    iexact HaS
  iapply Hk
  isplitl [HaV HcV]
  · isplitl [HaV] <;> iassumption
  isplitl [Hp]; · iexact Hp
  isplitl [Hz]; · iexact Hz
  iexists _; iexact HO

/-- Wait for the copy `j` that comes in: the landing slot holds what the device before sent, and the receive cell is done with. -/
theorem wp_wait_recv (j : Lane) (c : Dev nD) (l : List Lane) (hl : ∀ i ∈ l, j.2 < i.2) {sp' : Space} {s' : Shape} {e' : EltTy} {src : Memref sig .tc sp' s' e'}
    {hsrc : src.view.WordExact} {hdst : (comS j).view.WordExact}
    {α : Type} {Kt : α → sProp 𝕄} {k : PUnit → Prog (TpuEff nD τ sig (Elt F) Λ₀ .tc) α} :
    iprop(known xs ds K ∗ landing j c ∗ owing c (owed c l))
      ⊢ iprop(((slot c (comS j) (sent xs ds j (frm j.1 c)) ∗ semVal (kcell (c, some (true, j))) 0 ∗ owing c (owed c l))
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 (recvS j) src (comS j) hsrc hdst) k) Kt) := by
  unfold landing owing
  iintro ⟨#HK, ⟨HaV, HcV⟩, ⟨%W, HO⟩⟩ Hk
  iapply (Rounds.wp_wait_rest_token 𝒱₀ ER (sched xs ds) (c : Thread nD τ) none (κ := K (c, some (true, j))) (sm := .dma (recvS j)) (k' := N)
    (fun Kc => (wpE_waitDma2_eq 𝒱₀ (c : Thread nD τ) none Set.univ Kc).trans (by rw [credit_com j])) (Set.mem_univ _) () (O := owed c l) (W := W) (R := 0) (m := 0) (T := ∅)
    (by rw [Nat.zero_add]; exact (expect_copy xs ds c true j).symm)) $$ [HcV HO HaV]
  · isplitr; · iapply (known_inv xs ds K (c, some (true, j))); iexact HK
    isplitl [HcV]; · iexact HcV
    isplitl [HO]; · iexact HO
    isplitr
    · iapply (mayWait_owed (F := F) c (.dma (recvS j)) (2 + j.2.val) (le_of_eq (lv_recv c j ())) l
        (fun i hi => Nat.add_lt_add_left (Fin.lt_def.mp (hl i hi)) 2))
      iapply (known_lev xs ds K); iexact HK
    iexact HaV
  iintro ⟨HO, HaV, -, Hp⟩
  ihave Hp := (Entails.of_eq (rest_recv xs ds c j)) $$ Hp
  imod (Rounds.cell_close ER (sched xs ds) (Set.mem_univ (K (c, some (true, j)))) (fun h => h) (R := 0 + 1)
    (duties_later xs ds (kcell (c, some (true, j))))) $$ [HaV] with Hz
  · isplitr; · iapply (known_inv xs ds K (c, some (true, j))); iexact HK
    iexact HaV
  iapply Hk
  isplitl [Hp]; · iexact Hp
  isplitl [Hz]; · iexact Hz
  iexists _; iexact HO

/-- Signal the barrier of the neighbour on side `b`, handing it the landing slots it will write. -/
theorem wp_signal_nb (b : Bool) (c n : Dev nD) (hn : n = nb b c) (O : CellTallies nD τ sig Unit)
    {α : Type} {Kt : α → sProp 𝕄} {k : PUnit → Prog (TpuEff nD τ sig (Elt F) Λ₀ .tc) α} :
    iprop(known xs ds K ∗ dutyTok ER (kcell (nb b c, none)) 0 (!b) ∗ (bigSep (lanes (!b)) fun j => slotAny (F := F) c (comS j))
        ∗ owing c (O + tallyAt (kcell (nb b c, none)) () 1))
      ⊢ iprop((owing c O -∗ wp frame (wpE (defs₀ (F := F)) 𝒱₀ (c : Thread nD τ) none) Set.univ (k ⟨⟩) Kt)
          -∗ wp frame (wpE (defs₀ (F := F)) 𝒱₀ (c : Thread nD τ) none) Set.univ (.op (.semSignal (n : Thread nD τ) barS 1) k) Kt) := by
  subst hn
  unfold owing
  iintro ⟨#HK, Ht, Hp, ⟨%W, HO⟩⟩ Hk
  iapply (Rounds.wp_signal 𝒱₀ ER (sched xs ds) (c : Thread nD τ) none (dst := (nb b c : Thread nD τ)) (κ := K (nb b c, none))
      (d := !b) (by rw [duties_bar]; exact Finset.mem_univ _) (amount_bar xs ds (nb b c) (!b)) () O rfl) $$ [HO Ht Hp]
  · isplitr; · iapply (known_inv xs ds K (nb b c, none)); iexact HK
    isplitl [HO]; · iexact HO
    isplitl [Ht]; · iexact Ht
    isplitl [Hp]
    · rw [payload_bar]; unfold barPay; rw [nb_nb]; iexact Hp
    iapply (known_reached xs ds K (nb b c, none)); iexact HK
  iintro HO; iapply Hk; iexists W; iexact HO

/-- Wait for both neighbours at the barrier: the landing slots on both come in, and the barrier cell is done with. -/
theorem wp_wait_bar (c : Dev nD) (l : List Lane)
    {α : Type} {Kt : α → sProp 𝕄} {k : PUnit → Prog (TpuEff nD τ sig (Elt F) Λ₀ .tc) α} :
    iprop(known xs ds K ∗ atPos ER (kcell (c, none)) 0 ∅ 0 ∗ cred (tallyAt (kcell (c, none)) () 2) ∗ owing c (owed c l))
      ⊢ iprop(((barPay (F := F) false c ∗ barPay (F := F) true c ∗ semVal (kcell (c, none)) 0 ∗ owing c (owed c l))
            -∗ wp frame (wpE (defs₀ (F := F)) 𝒱₀ (c : Thread nD τ) none) Set.univ (k ⟨⟩) Kt)
          -∗ wp frame (wpE (defs₀ (F := F)) 𝒱₀ (c : Thread nD τ) none) Set.univ (.op (.semWait barS 2) k) Kt) := by
  unfold owing
  iintro ⟨#HK, HaB, HcB, ⟨%W, HO⟩⟩ Hk
  iapply (Rounds.wp_wait_rest_token 𝒱₀ ER (sched xs ds) (c : Thread nD τ) none (κ := K (c, none)) (sm := .reg barS)
    (wpE_semWait_eq 𝒱₀ (c : Thread nD τ) none Set.univ) (Set.mem_univ _) () (O := owed c l) (W := W) (R := 0) (m := 0) (T := ∅)
    (by rw [Nat.zero_add]; exact (expect_bar xs ds c).symm)) $$ [HcB HO HaB]
  · isplitr; · iapply (known_inv xs ds K (c, none)); iexact HK
    isplitl [HcB]; · iexact HcB
    isplitl [HO]; · iexact HO
    isplitr
    · iapply (mayWait_owed (F := F) c (.reg barS) 1 (le_of_eq (lv_bar c ())) l (fun i _ => by omega))
      iapply (known_lev xs ds K); iexact HK
    iexact HaB
  iintro ⟨HO, HaB, -, Hp⟩
  ihave Hp := (Entails.of_eq (rest_bar xs ds c)) $$ Hp
  icases Hp with ⟨Hp0, Hp1⟩
  imod (Rounds.cell_close ER (sched xs ds) (Set.mem_univ (K (c, none))) (fun h => h) (R := 0 + 1)
    (duties_later xs ds (kcell (c, none)))) $$ [HaB] with Hz
  · isplitr; · iapply (known_inv xs ds K (c, none)); iexact HK
    iexact HaB
  iapply Hk
  isplitl [Hp0]; · iexact Hp0
  isplitl [Hp1]; · iexact Hp1
  isplitl [Hz]; · iexact Hz
  iexists _; iexact HO

end Rules

end Cert.RingProof

end
-- ==== Proof.Slots.lean ====
/-
# Loads and stores, and what they carry

A load through a rectangle of a memref held at contents `X` reads `X` there; a store overwrites it. For the slots of the staging and landing scratches both are stated at the slot, for the bf16 copy of `dy` and for the result by columns. The vector arithmetic between them is brought to `part`, `sent` and `acc`.
-/
module

public import proofs.«01_k».proof.Proof.Lanes

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A memref of device `c` held whole, at contents `X`. -/
abbrev held {s : Shape} {e : EltTy} (c : Dev nD) (M : Memref sig .tc .vmem s e) (X : Vec F s e) : sProp 𝕄 :=
  owns (c : Thread nD τ) M fullShare X

/-- Device `c` runs `p`, and `Kt` holds of the result. -/
abbrev runs {α : Type} (c : Dev nD) (p : Prog (TpuEff nD τ sig (Elt F) Λ₀ .tc) α) (Kt : α → sProp 𝕄) : sProp 𝕄 :=
  wp frame (wpE (defs₀ (F := F)) 𝒱₀ (c : Thread nD τ) none) Set.univ p Kt

section Memory

variable {s : Shape} {e : EltTy} (c : Dev nD) (M : Memref sig .tc .vmem s e)

/-- A load of a held memref reads its contents. -/
theorem wp_load_held (r : LoadRect s) (X : Vec F s e) {hl : M.view.LoadsAt r}
    {α : Type} {Kt : α → sProp 𝕄} {k : (r.shape.Idx → Elt F e) → Prog (TpuEff nD τ sig (Elt F) Λ₀ .tc) α} :
    held c M X ⊢ iprop((held c M X -∗ runs c (k fun x => X (r.idx x)) Kt) -∗ runs c (.op (.load M r hl) k) Kt) := by
  unfold held owns
  iintro ⟨%f, %hf, H⟩ Hk
  subst hf
  iapply (wp_load 𝒱₀ (c : Thread nD τ) none Set.univ (m := M) (r := r) (S := M.view.set) (q := fullShare) (f := f)
    (View.setOn_subset_set _ _)) $$ [H]
  · iexact H
  iintro H
  iapply Hk
  iexists f; isplitr
  · ipureintro; rfl
  iexact H

/-- A store into a held memref: the new contents are the stored ones on the rectangle and the old ones off it. -/
theorem wp_store_held (r : Rect s) (X Y : Vec F s e) (w : r.shape.Idx → Elt F e)
    (hin : ∀ x, Y (r.emb x) = w x) (hout : ∀ y, (∀ x, r.emb x ≠ y) → Y y = X y)
    {hx : (M.access r).Stores Finset.univ} {hm : Finset.univ = Finset.univ ∨ ∀ a, r.stride a = 1}
    {α : Type} {Kt : α → sProp 𝕄} {k : PUnit → Prog (TpuEff nD τ sig (Elt F) Λ₀ .tc) α} :
    held c M X ⊢ iprop((held c M Y -∗ runs c (k ⟨⟩) Kt) -∗ runs c (.op (.store M r w Finset.univ hx hm) k) Kt) := by
  unfold held owns
  iintro ⟨%f, %hf, H⟩ Hk
  subst hf
  iapply (wp_store 𝒱₀ (c : Thread nD τ) none Set.univ (m := M) (r := r) (Mk := Finset.univ) (S := M.view.set) (f := f)
    ((View.setOn_subset_set _ _).trans (View.set_slice_subset _ _))) $$ [H]
  · iexact H
  iintro H
  iapply Hk
  iexists ((M.access r).write (Elt F) f w Finset.univ); isplitr
  · ipureintro
    funext y
    by_cases hy : y ∈ Finset.univ.map r.emb
    · obtain ⟨x, -, rfl⟩ := Finset.mem_map.mp hy
      exact (View.read_slice_write_emb r f w (Finset.mem_univ x)).trans (hin x).symm
    · exact (View.read_slice_write_of_not_mem r f w Finset.univ hy).trans (hout y fun x hx => hy (Finset.mem_map.mpr ⟨x, Finset.mem_univ _, hx⟩)).symm
  iexact H

variable (R : Rect s) (h1 : ∀ a, R.stride a = 1) {s' : Shape} (hq : R.shape.Squeezes s') (hc : s'.ShapeCasts R.shape)

/-- A load of a rectangle whose slot is held reads the slot's contents, with the unit axes. -/
theorem wp_load_slot (v : Vec F s' e) {hl : M.view.LoadsAt R.toLoadRect}
    {α : Type} {Kt : α → sProp 𝕄} {k : (R.shape.Idx → Elt F e) → Prog (TpuEff nD τ sig (Elt F) Λ₀ .tc) α} :
    held c ((M.slice R h1).squeeze s' hq) v
      ⊢ iprop((held c ((M.slice R h1).squeeze s' hq) v -∗ runs c (k (shapeCast R.shape v hc)) Kt) -∗ runs c (.op (.load M R.toLoadRect hl) k) Kt) := by
  unfold held owns
  iintro ⟨%f, %hf, H⟩ Hk
  subst hf
  iapply (wp_load_rect 𝒱₀ (c : Thread nD τ) none Set.univ (m := M) (r := R) (S := (M.access R).set) (q := fullShare) (f := f)
    (Finset.Subset.refl _)) $$ [H]
  · rw [← View.set_reshape (M.access R) hq.numel_eq]; iexact H
  iintro H
  have he : (M.access R).read (Elt F) f = shapeCast R.shape (View.read (Elt F) ((M.slice R h1).squeeze s' hq).view f) hc :=
    (shapeCast_shapeCast ((M.access R).read (Elt F) f) hq.numel_eq hc).symm
  rw [he]
  iapply Hk
  iexists f; isplitr
  · ipureintro; rfl
  rw [← View.set_reshape (M.access R) hq.numel_eq]; iexact H

/-- A store into a rectangle whose slot is held. -/
theorem wp_store_slot (v v' : Vec F s' e) (w : R.shape.Idx → Elt F e) (hw : w = shapeCast R.shape v' hc)
    {hx : (M.access R).Stores Finset.univ} {hm : Finset.univ = Finset.univ ∨ ∀ a, R.stride a = 1}
    {α : Type} {Kt : α → sProp 𝕄} {k : PUnit → Prog (TpuEff nD τ sig (Elt F) Λ₀ .tc) α} :
    held c ((M.slice R h1).squeeze s' hq) v
      ⊢ iprop((held c ((M.slice R h1).squeeze s' hq) v' -∗ runs c (k ⟨⟩) Kt) -∗ runs c (.op (.store M R w Finset.univ hx hm) k) Kt) := by
  unfold held owns
  iintro ⟨%f, %hf, H⟩ Hk
  iapply (wp_store 𝒱₀ (c : Thread nD τ) none Set.univ (m := M) (r := R) (Mk := Finset.univ) (S := (M.access R).set) (f := f)
    (Finset.Subset.refl _)) $$ [H]
  · rw [← View.set_reshape (M.access R) hq.numel_eq]; iexact H
  iintro H
  iapply Hk
  iexists ((M.access R).write (Elt F) f w Finset.univ); isplitr
  · ipureintro
    have he : (M.access R).read (Elt F) ((M.access R).write (Elt F) f w Finset.univ) = w := View.read_write_univ _ _
    rw [show View.read (Elt F) ((M.slice R h1).squeeze s' hq).view ((M.access R).write (Elt F) f w Finset.univ)
      = shapeCast s' ((M.access R).read (Elt F) ((M.access R).write (Elt F) f w Finset.univ)) hq.numel_eq from rfl, he, hw]
    exact shapeCast_shapeCast v' hc hq.numel_eq
  rw [← View.set_reshape (M.access R) hq.numel_eq]; iexact H

end Memory

section Columns

/-- The rectangle of all rows and of the columns from `o` on, `W` of them, holds an index whose column is one of these; -/
theorem mem_cols {R C W o : ℕ} {off : Fin 2 → ℕ} (ho : off = ![0, o]) (inb : ∀ a, off a + (![R, W] : Fin 2 → ℕ) a ≤ (⟨2, ![R, C]⟩ : Shape).size a)
    (y : (⟨2, ![R, C]⟩ : Shape).Idx) (h0 : o ≤ (y 1).val) (h1 : (y 1).val < o + W) :
    ∃ x, (Rect.unit (s := ⟨2, ![R, C]⟩) off ![R, W] inb).emb x = y := by
  subst ho
  refine ⟨Fin.cons (y 0) (Fin.cons (⟨(y 1).val - o, by show _ < W; omega⟩ : Fin W) finZeroElim), ?_⟩
  funext a; apply Fin.ext
  refine Fin.cases ?_ (fun a => ?_) a
  · show 0 + 1 * (y 0).val = (y 0).val; omega
  · rw [Fin.fin_one_eq_zero a]; show o + 1 * ((y 1).val - o) = (y 1).val; omega

/-- and its element at `x` has row `x 0` and column `o + x 1`. -/
theorem cols_val {R C W o : ℕ} {off : Fin 2 → ℕ} (ho : off = ![0, o]) (inb : ∀ a, off a + (![R, W] : Fin 2 → ℕ) a ≤ (⟨2, ![R, C]⟩ : Shape).size a)
    (x : (⟨2, ![R, W]⟩ : Shape).Idx) :
    (((Rect.unit (s := ⟨2, ![R, C]⟩) off ![R, W] inb).emb x 0).val = (x 0).val) ∧ ((Rect.unit (s := ⟨2, ![R, C]⟩) off ![R, W] inb).emb x 1).val = o + (x 1).val := by
  subst ho
  exact ⟨show 0 + 1 * (x 0).val = (x 0).val by omega, show o + 1 * (x 1).val = o + (x 1).val by omega⟩

/-- An index of rank two from its two coordinates. -/
theorem idx2_ext {R C : ℕ} {y z : (⟨2, ![R, C]⟩ : Shape).Idx} (h0 : (y 0).val = (z 0).val) (h1 : (y 1).val = (z 1).val) : y = z := by
  funext a; apply Fin.ext
  refine Fin.cases h0 (fun a => ?_) a
  rw [Fin.fin_one_eq_zero a]; exact h1

end Columns

section Sites

variable (xs : Dev nD → Vec F S1024x1024 .f32) (ds : Dev nD → Vec F S1024x4096 .f32) (c : Dev nD)

/-- A load of the whole of a 1024 × 4096 memref. -/
theorem wp_load_all {e : EltTy} (M : Memref sig .tc .vmem S1024x4096 e) (X : Vec F S1024x4096 e)
    {inb : ∀ a, (![0, 0] : Fin 2 → ℕ) a + S1024x4096.size a ≤ S1024x4096.size a}
    {hl : M.view.LoadsAt (Rect.unit (s := S1024x4096) ![0, 0] S1024x4096.size inb).toLoadRect}
    {α : Type} {Kt : α → sProp 𝕄} {k : Vec F S1024x4096 e → Prog (TpuEff nD τ sig (Elt F) Λ₀ .tc) α} :
    held c M X ⊢ iprop((held c M X -∗ runs c (k X) Kt)
      -∗ runs c (.op (.load M (Rect.unit (s := S1024x4096) ![0, 0] S1024x4096.size inb).toLoadRect hl) k) Kt) := by
  have h := wp_load_held c M (Rect.unit (s := S1024x4096) ![0, 0] S1024x4096.size inb).toLoadRect X (hl := hl) (Kt := Kt) (k := k)
  have he : (fun x => X ((Rect.unit (s := S1024x4096) ![0, 0] S1024x4096.size inb).toLoadRect.idx x)) = X := funext fun x =>
    congrArg X (idx2_ext (cols_val (R := 1024) (C := 4096) (W := 4096) rfl inb x).1 ((cols_val (R := 1024) (C := 4096) (W := 4096) rfl inb x).2.trans (Nat.zero_add _)))
  rw [he] at h
  exact h

/-- A load of the columns of `x` for the block `q` of rows. -/
theorem wp_load_x (X : Vec F S1024x1024 .f32) (q : Dev nD) {off : Fin 2 → ℕ} (ho : off = ![0, q.val * 256])
    {inb : ∀ a, off a + S1024x256.size a ≤ S1024x1024.size a}
    {hl : (xM : Memref sig .tc .vmem S1024x1024 .f32).view.LoadsAt (Rect.unit (s := S1024x1024) off S1024x256.size inb).toLoadRect}
    {α : Type} {Kt : α → sProp 𝕄} {k : Vec F S1024x256 .f32 → Prog (TpuEff nD τ sig (Elt F) Λ₀ .tc) α} :
    held c xM X ⊢ iprop((held c xM X -∗ runs c (k (xcol X q)) Kt)
      -∗ runs c (.op (.load xM (Rect.unit (s := S1024x1024) off S1024x256.size inb).toLoadRect hl) k) Kt) := by
  subst ho
  exact wp_load_held c xM (Rect.unit (s := S1024x1024) ![0, q.val * 256] S1024x256.size inb).toLoadRect X

/-- The offsets of those loads: the block that each partial sum is for. -/
theorem off1_eq (r : Fin 4) (hr : dir r = true) : k0_off1 c = ![0, (tgt r 0 c).val * 256] := by revert r c; decide
/-- the same for the strips of the other direction, -/
theorem off2_eq (r : Fin 4) (hr : dir r = false) : k0_off2 c = ![0, (tgt r 0 c).val * 256] := by revert r c; decide
/-- and for the products of the later hops, -/
theorem off3_eq (r : Fin 4) (hr : dir r = true) (s : Fin 3) : k0_off3 c (BitVec.ofNat 32 s.val) = ![0, (tgt r (s.val + 1) c).val * 256] := by
  revert r c s; decide
/-- in both directions. -/
theorem off4_eq (r : Fin 4) (hr : dir r = false) (s : Fin 3) : k0_off4 c (BitVec.ofNat 32 s.val) = ![0, (tgt r (s.val + 1) c).val * 256] := by
  revert r c s; decide

/-- The landing slot of a hop is the slot the next hop's copy reads. -/
theorem srcS_next (r : Fin 4) : ∀ (k k' : Fin 3), k'.val = k.val + 1 → srcS (r, k') = comS (r, k)
  | k, ⟨0, _⟩, h => absurd h (by simp)
  | k, ⟨k' + 1, h'⟩, h => by obtain rfl : k = ⟨k', Nat.lt_of_succ_lt h'⟩ := Fin.ext (Nat.succ.inj h).symm; rfl

/-- Load a landing slot. -/
theorem wp_load_com (j : Lane) (v : Vec F S256x1024 .bf16) {hl : (cM : Memref sig .tc .vmem S4x3x256x1024 .bf16).view.LoadsAt (comR j).toLoadRect}
    {α : Type} {Kt : α → sProp 𝕄} {k : Vec F S1x1x256x1024 .bf16 → Prog (TpuEff nD τ sig (Elt F) Λ₀ .tc) α} :
    slot c (comS j) v ⊢ iprop((slot c (comS j) v -∗ runs c (k (shapeCast S1x1x256x1024 v shapeCasts_S256x1024_S1x1x256x1024)) Kt)
      -∗ runs c (.op (.load cM (comR j).toLoadRect hl) k) Kt) :=
  wp_load_slot c cM (comR j) (fun _ => rfl) squeezes_S1x1x256x1024_S256x1024 shapeCasts_S256x1024_S1x1x256x1024 v

/-- Load a staging slot. -/
theorem wp_load_stg (r : Fin 4) (v : Vec F S256x1024 .bf16) {hl : (sM : Memref sig .tc .vmem S4x256x1024 .bf16).view.LoadsAt (stgR r).toLoadRect}
    {α : Type} {Kt : α → sProp 𝕄} {k : Vec F S1x256x1024 .bf16 → Prog (TpuEff nD τ sig (Elt F) Λ₀ .tc) α} :
    slot c (stgS r) v ⊢ iprop((slot c (stgS r) v -∗ runs c (k (shapeCast S1x256x1024 v shapeCasts_S256x1024_S1x256x1024)) Kt)
      -∗ runs c (.op (.load sM (stgR r).toLoadRect hl) k) Kt) :=
  wp_load_slot c sM (stgR r) (fun _ => rfl) squeezes_S1x256x1024_S256x1024 shapeCasts_S256x1024_S1x256x1024 v

/-- Fill a staging slot with what the first hop's copy carries. -/
theorem wp_store_stg (r : Fin 4) (v : Vec F S256x1024 .bf16) (w : Vec F S1x256x1024 .bf16)
    (hw : w = shapeCast S1x256x1024 (truncf (φ := .f32) .bf16 (part r (xs c) (tgt r 0 c) (half (ds c)))) shapeCasts_S256x1024_S1x256x1024)
    {hx : ((sM : Memref sig .tc .vmem S4x256x1024 .bf16).access (stgR r)).Stores Finset.univ} {hm : Finset.univ = Finset.univ ∨ ∀ a, (stgR r).stride a = 1}
    {α : Type} {Kt : α → sProp 𝕄} {k : PUnit → Prog (TpuEff nD τ sig (Elt F) Λ₀ .tc) α} :
    slot c (stgS r) v ⊢ iprop((slot c (srcS (r, 0)) (sent xs ds (r, 0) c) -∗ runs c (k ⟨⟩) Kt)
      -∗ runs c (.op (.store sM (stgR r) w Finset.univ hx hm) k) Kt) :=
  wp_store_slot c sM (stgR r) (fun _ => rfl) squeezes_S1x256x1024_S256x1024 shapeCasts_S256x1024_S1x256x1024 v (sent xs ds (r, 0) c) w hw

/-- Replace what came in by what the next hop's copy carries: the same plus the device's own product, in bf16. -/
theorem wp_store_com (r : Fin 4) (k k' : Fin 3) (hk : k'.val = k.val + 1) (w : Vec F S1x1x256x1024 .bf16)
    (hw : w = shapeCast S1x1x256x1024 (truncf (φ := .f32) .bf16 (addf (extf (φ := .bf16) .f32 (sent xs ds (r, k) (frm r c)))
      (part r (xs c) (tgt r (k.val + 1) c) (half (ds c))))) shapeCasts_S256x1024_S1x1x256x1024)
    {hx : ((cM : Memref sig .tc .vmem S4x3x256x1024 .bf16).access (comR (r, k))).Stores Finset.univ} {hm : Finset.univ = Finset.univ ∨ ∀ a, (comR (r, k)).stride a = 1}
    {α : Type} {Kt : α → sProp 𝕄} {K : PUnit → Prog (TpuEff nD τ sig (Elt F) Λ₀ .tc) α} :
    slot c (comS (r, k)) (sent xs ds (r, k) (frm r c)) ⊢ iprop((slot c (srcS (r, k')) (sent xs ds (r, k') c) -∗ runs c (K ⟨⟩) Kt)
      -∗ runs c (.op (.store cM (comR (r, k)) w Finset.univ hx hm) K) Kt) := by
  have hs : sent xs ds (r, k') c = truncf (φ := .f32) .bf16 (addf (extf (φ := .bf16) .f32 (sent xs ds (r, k) (frm r c))) (part r (xs c) (tgt r (k.val + 1) c) (half (ds c)))) := by
    unfold sent; rw [show (r, k').2.val = k.val + 1 from hk]; rfl
  rw [srcS_next r k k' hk, hs]
  exact wp_store_slot c cM (comR (r, k)) (fun _ => rfl) squeezes_S1x1x256x1024_S256x1024 shapeCasts_S256x1024_S1x1x256x1024 _ _ w hw

/-! ## The bf16 copy of `dy`, in two stores -/

/-- The left 2048 columns done. -/
def halfLeft (D : Vec F S1024x4096 .f32) (B : Vec F S1024x4096 .bf16) : Vec F S1024x4096 .bf16 := fun i => if (i 1).val < 2048 then half D i else B i

/-- A store of columns of the bf16 copy: `Y` is the copy on these columns and what was there elsewhere. -/
theorem wp_store_half (D : Vec F S1024x4096 .f32) (B Y : Vec F S1024x4096 .bf16) (o : ℕ) {inb : ∀ a, (![0, o] : Fin 2 → ℕ) a + S1024x2048.size a ≤ S1024x4096.size a}
    (w : Vec F S1024x2048 .bf16) (hw : w = fun x => half D ((Rect.unit (s := S1024x4096) ![0, o] S1024x2048.size inb).emb x))
    (hY : ∀ i, Y i = if o ≤ (i 1).val ∧ (i 1).val < o + 2048 then half D i else B i)
    {hx : ((bM : Memref sig .tc .vmem S1024x4096 .bf16).access (Rect.unit (s := S1024x4096) ![0, o] S1024x2048.size inb)).Stores Finset.univ}
    {hm : Finset.univ = Finset.univ ∨ ∀ a, (Rect.unit (s := S1024x4096) ![0, o] S1024x2048.size inb).stride a = 1}
    {α : Type} {Kt : α → sProp 𝕄} {k : PUnit → Prog (TpuEff nD τ sig (Elt F) Λ₀ .tc) α} :
    held c bM B ⊢ iprop((held c bM Y -∗ runs c (k ⟨⟩) Kt)
      -∗ runs c (.op (.store bM (Rect.unit (s := S1024x4096) ![0, o] S1024x2048.size inb) w Finset.univ hx hm) k) Kt) := by
  refine wp_store_held c bM (Rect.unit (s := S1024x4096) ![0, o] S1024x2048.size inb) B Y w (fun x => ?_) (fun y hy => ?_)
  · have h : ((Rect.unit (s := S1024x4096) ![0, o] S1024x2048.size inb).emb x 1).val = o + (x 1).val := (cols_val (R := 1024) (C := 4096) (W := 2048) rfl inb x).2
    have hlt : (x 1).val < 2048 := (x 1).isLt
    rw [hY, hw, if_pos ⟨by rw [h]; omega, by rw [h]; omega⟩]
  · refine (hY y).trans (if_neg fun h => ?_)
    obtain ⟨x, hx⟩ := mem_cols (R := 1024) (C := 4096) (W := 2048) rfl inb y h.1 h.2
    exact hy x hx

/-! ## The result, by strips -/

/-- The strips of `S` hold the result, the others what was there. -/
def mix (S : Finset (Fin 4)) (X : Vec F S256x4096 .f32) : Vec F S256x4096 .f32 := fun i =>
  if (⟨(i 1).val / 1024, Nat.div_lt_of_lt_mul (i 1).isLt⟩ : Fin 4) ∈ S then outAt xs ds c i else X i

/-- With no strip stored the result is what it was, -/
theorem mix_empty (X : Vec F S256x4096 .f32) : mix xs ds c ∅ X = X := funext fun i => if_neg (Finset.notMem_empty _)
/-- and with all four stored it is the whole result. -/
theorem mix_univ (X : Vec F S256x4096 .f32) : mix xs ds c Finset.univ X = outAt xs ds c := funext fun i => if_pos (Finset.mem_univ _)

/-- Store a strip of the result. -/
theorem wp_store_strip (S : Finset (Fin 4)) (r : Fin 4) (X : Vec F S256x4096 .f32) {off : Fin 2 → ℕ} (ho : off = ![0, 1024 * r.val])
    {inb : ∀ a, off a + S256x1024.size a ≤ S256x4096.size a} (w : Vec F S256x1024 .f32) (hw : w = acc xs ds r 3 c)
    {hx : ((oM : Memref sig .tc .vmem S256x4096 .f32).access (Rect.unit (s := S256x4096) off S256x1024.size inb)).Stores Finset.univ}
    {hm : Finset.univ = Finset.univ ∨ ∀ a, (Rect.unit (s := S256x4096) off S256x1024.size inb).stride a = 1}
    {α : Type} {Kt : α → sProp 𝕄} {k : PUnit → Prog (TpuEff nD τ sig (Elt F) Λ₀ .tc) α} :
    held c oM (mix xs ds c S X) ⊢ iprop((held c oM (mix xs ds c (insert r S) X) -∗ runs c (k ⟨⟩) Kt)
      -∗ runs c (.op (.store oM (Rect.unit (s := S256x4096) off S256x1024.size inb) w Finset.univ hx hm) k) Kt) := by
  refine wp_store_held c oM (Rect.unit (s := S256x4096) off S256x1024.size inb) _ _ w (fun x => ?_) (fun y hy => ?_)
  · have h := cols_val (R := 256) (C := 4096) (W := 1024) ho inb x
    have hlt : (x 1).val < 1024 := (x 1).isLt
    have hr : ∀ p, (⟨((Rect.unit (s := S256x4096) off S256x1024.size inb).emb x 1).val / 1024, p⟩ : Fin 4) = r := fun p => Fin.ext (by
      show _ / 1024 = r.val; rw [h.2]; omega)
    have ht : (Fin.cons ((Rect.unit (s := S256x4096) off S256x1024.size inb).emb x 0)
        (Fin.cons (⟨((Rect.unit (s := S256x4096) off S256x1024.size inb).emb x 1).val % 1024, Nat.mod_lt _ (by decide)⟩ : Fin 1024) finZeroElim) : S256x1024.Idx) = x :=
      idx2_ext (R := 256) (C := 1024) h.1 (by show _ % 1024 = (x 1).val; rw [h.2]; omega)
    unfold mix
    rw [if_pos (by rw [hr]; exact Finset.mem_insert_self _ _), hw]
    show acc xs ds _ 3 c _ = acc xs ds r 3 c x
    rw [hr]
    exact congrArg (acc xs ds r 3 c) ht
  · have hn : (⟨(y 1).val / 1024, Nat.div_lt_of_lt_mul (y 1).isLt⟩ : Fin 4) ≠ r := fun h => by
      have hv : (y 1).val / 1024 = r.val := congrArg Fin.val h
      obtain ⟨x, hx⟩ := mem_cols (R := 256) (C := 4096) (W := 1024) ho inb y (by omega) (by omega)
      exact hy x hx
    unfold mix
    exact if_congr (Finset.mem_insert.trans (or_iff_right hn)) rfl rfl

end Sites

section Arithmetic

variable (X : Vec F S1024x1024 .f32) (q : Dev nD)

/-- A product as the kernel spells it, from the bf16 copy of `dy`; -/
theorem prod_eq (r : Fin 4) {off : Fin 2 → ℕ} (ho : off = ![0, 1024 * r.val]) {hs : S1024x4096.Slices off S1024x1024} (B : Vec F S1024x4096 .bf16) :
    matmul dot_S1024x256_S1024x1024_S256x1024_0_0_1_1_n_n none (truncf (φ := .f32) .bf16 (shapeCast S1024x256 (xcol X q) shapeCasts_S1024x256_S1024x256))
      (extractStridedSlice S1024x1024 off B hs) (constant S256x1024 .f32 0x00000000#32) = part r X q B := by
  subst ho; rw [shapeCast_self]; rfl

/-- the same from `dy` itself, rounded strip by strip, as a staging slot takes it; -/
theorem stage_eq (r : Fin 4) {off : Fin 2 → ℕ} (ho : off = ![0, 1024 * r.val]) {hs : S1024x4096.Slices off S1024x1024} (D : Vec F S1024x4096 .f32) :
    shapeCast S1x256x1024 (truncf (φ := .f32) .bf16 (matmul dot_S1024x256_S1024x1024_S256x1024_0_0_1_1_n_n none
      (truncf (φ := .f32) .bf16 (shapeCast S1024x256 (xcol X q) shapeCasts_S1024x256_S1024x256))
      (truncf (φ := .f32) .bf16 (extractStridedSlice S1024x1024 off (shapeCast S1024x4096 D shapeCasts_S1024x4096_S1024x4096) hs)) (constant S256x1024 .f32 0x00000000#32)))
      shapeCasts_S256x1024_S1x256x1024
    = shapeCast S1x256x1024 (truncf (φ := .f32) .bf16 (part r X q (half D))) shapeCasts_S256x1024_S1x256x1024 := by
  subst ho; rw [shapeCast_self, shapeCast_self]; rfl

/-- and when only the left half of the copy is there, for a strip of that half. -/
theorem part_left (B B' : Vec F S1024x4096 .bf16) (h : ∀ i, (i 1).val < 2048 → B i = B' i) : part 0 X q B = part 0 X q B' := by
  have hs : strip 0 B = strip 0 B' := funext fun x => h _ (by
    have hx : (x 1).val < 1024 := (x 1).isLt
    show 1024 * 0 + (x 1).val < 2048
    omega)
  unfold part; rw [hs]

/-- What came in plus a product, as the result takes it; -/
theorem join_eq (v : Vec F S256x1024 .bf16) (p : FVec F S256x1024 .f32) :
    addf (extf (φ := .bf16) .f32 (shapeCast S256x1024 (shapeCast S1x1x256x1024 v shapeCasts_S256x1024_S1x1x256x1024) shapeCasts_S1x1x256x1024_S256x1024)) p
      = addf (extf (φ := .bf16) .f32 v) p := by
  rw [shapeCast_shapeCast]
/-- and as a landing slot takes it for the next hop. -/
theorem pass_eq (v : Vec F S256x1024 .bf16) (p : FVec F S256x1024 .f32) :
    shapeCast S1x1x256x1024 (truncf (φ := .f32) .bf16 (addf (extf (φ := .bf16) .f32
      (shapeCast S256x1024 (shapeCast S1x1x256x1024 v shapeCasts_S256x1024_S1x1x256x1024) shapeCasts_S1x1x256x1024_S256x1024)) p)) shapeCasts_S256x1024_S1x1x256x1024
      = shapeCast S1x1x256x1024 (truncf (φ := .f32) .bf16 (addf (extf (φ := .bf16) .f32 v) p)) shapeCasts_S256x1024_S1x1x256x1024 := by
  rw [shapeCast_shapeCast]

end Arithmetic

end Cert.RingProof

end
-- ==== Proof.Steps.lean ====
/-
# The body, step by step

The kernel's body is a sequence of steps. Each is run here at a symbolic device, over the rules for copies, waits, loads and stores.
-/
module

public import proofs.«01_k».proof.Proof.Slots

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Steps

variable (xs : Dev nD → Vec F S1024x1024 .f32) (ds : Dev nD → Vec F S1024x4096 .f32) (K : Dev nD × Key → ℕ) (c : Dev nD) (l : List Lane)

/-- Device `c`'s own product for strip `r` at the `k`-th partial sum. -/
abbrev mine (r : Fin 4) (k : ℕ) : FVec F S256x1024 .f32 := part r (xs c) (tgt r k c) (half (ds c))

/-- Copy `j` waited for on the sending side. -/
def gone (j : Lane) : sProp 𝕄 := iprop(landing (F := F) j c ∗ slot c (srcS j) (sent xs ds j c) ∗ semVal (kcell (c, some (false, j))) 0)
/-- Copy `j` done with on both sides: its source slot and its two cells. -/
def past (j : Lane) : sProp 𝕄 := iprop(slot c (srcS j) (sent xs ds j c) ∗ semVal (kcell (c, some (false, j))) 0 ∗ semVal (kcell (c, some (true, j))) 0)
/-- What came in by copy `j`, where it landed. -/
def came (j : Lane) : sProp 𝕄 := slot c (comS j) (sent xs ds j (frm j.1 c))
/-- The slot copy `j` reads holds what it is to carry. -/
def full (j : Lane) : sProp 𝕄 := slot c (srcS j) (sent xs ds j c)

/-- A program that has nothing left to do returns its value. -/
theorem runs_ret {α : Type} (a : α) (Kt : α → sProp 𝕄) : Kt a ⊢ runs c (.ret a) Kt := by
  unfold runs; rw [wp_ret]; iintro H; imodintro; iexact H

/-- Wait for copy `j` on the sending side; -/
theorem wait_gone (j : Lane) {sp' : Space} {s' : Shape} {e' : EltTy} {src : Memref sig .tc sp' s' e'} {M : Memref sig .tc .vmem S256x1024 .bf16} (hM : M = srcS j)
    {hsrc : src.view.WordExact} {hdst : M.view.WordExact}
    {α : Type} {Kt : α → sProp 𝕄} {k : PUnit → Prog (TpuEff nD τ sig (Elt F) Λ₀ .tc) α} :
    iprop(known xs ds K ∗ flying j c ∗ owing c (owed c l))
      ⊢ iprop(((gone xs ds c j ∗ owing c (owed c l)) -∗ runs c (k ⟨⟩) Kt) -∗ runs c (.op (.waitDma2 (sendS j) src M hsrc hdst) k) Kt) := by
  iintro H Hk
  iapply (wp_wait_send xs ds K j c l hM) $$ [H]
  · iexact H
  iintro ⟨Hl, Hs, Hz, HO⟩
  iapply Hk
  unfold gone
  isplitr [HO]
  · isplitl [Hl]; · iexact Hl
    isplitl [Hs] <;> iassumption
  iexact HO

/-- then on the receiving side. -/
theorem wait_past (j : Lane) (hl : ∀ i ∈ l, j.2 < i.2) {sp' : Space} {s' : Shape} {e' : EltTy} {src : Memref sig .tc sp' s' e'}
    {hsrc : src.view.WordExact} {hdst : (comS j).view.WordExact}
    {α : Type} {Kt : α → sProp 𝕄} {k : PUnit → Prog (TpuEff nD τ sig (Elt F) Λ₀ .tc) α} :
    iprop(known xs ds K ∗ gone xs ds c j ∗ owing c (owed c l))
      ⊢ iprop(((past xs ds c j ∗ came xs ds c j ∗ owing c (owed c l)) -∗ runs c (k ⟨⟩) Kt) -∗ runs c (.op (.waitDma2 (recvS j) src (comS j) hsrc hdst) k) Kt) := by
  unfold gone
  iintro ⟨HK, ⟨Hl, Hs, Hz⟩, HO⟩ Hk
  iapply (wp_wait_recv xs ds K j c l hl) $$ [HK Hl HO]
  · isplitl [HK]; · iexact HK
    isplitl [Hl] <;> iassumption
  iintro ⟨Hv, Hz', HO⟩
  iapply Hk
  unfold past came
  isplitl [Hs Hz Hz']
  · isplitl [Hs]; · iexact Hs
    isplitl [Hz] <;> iassumption
  isplitl [Hv] <;> iassumption

/-- The devices the program computes: its two neighbours, and the destination of each copy. -/
theorem dev1_eq : (⟨k0_dev1 c, k0_dev1_lt c⟩ : Dev nD) = nb false c := by revert c; decide
@[inherit_doc dev1_eq] theorem dev2_eq : (⟨k0_dev2 c, k0_dev2_lt c⟩ : Dev nD) = nb true c := by revert c; decide
@[inherit_doc dev1_eq] theorem dev3_eq : (⟨k0_dev3 c, k0_dev3_lt c⟩ : Dev nD) = dst 0 c := by revert c; decide
@[inherit_doc dev1_eq] theorem dev4_eq : (⟨k0_dev4 c, k0_dev4_lt c⟩ : Dev nD) = dst 2 c := by revert c; decide
@[inherit_doc dev1_eq] theorem dev5_eq : (⟨k0_dev5 c, k0_dev5_lt c⟩ : Dev nD) = dst 1 c := by revert c; decide
@[inherit_doc dev1_eq] theorem dev6_eq : (⟨k0_dev6 c, k0_dev6_lt c⟩ : Dev nD) = dst 3 c := by revert c; decide
@[inherit_doc dev1_eq] theorem dev7_eq : (⟨k0_dev7 c, k0_dev7_lt c⟩ : Dev nD) = dst 0 c := by revert c; decide
@[inherit_doc dev1_eq] theorem dev8_eq : (⟨k0_dev8 c, k0_dev8_lt c⟩ : Dev nD) = dst 2 c := by revert c; decide
@[inherit_doc dev1_eq] theorem dev9_eq : (⟨k0_dev9 c, k0_dev9_lt c⟩ : Dev nD) = dst 1 c := by revert c; decide
@[inherit_doc dev1_eq] theorem dev10_eq : (⟨k0_dev10 c, k0_dev10_lt c⟩ : Dev nD) = dst 3 c := by revert c; decide
@[inherit_doc dev1_eq] theorem dev11_eq : (⟨k0_dev11 c, k0_dev11_lt c⟩ : Dev nD) = dst 0 c := by revert c; decide
@[inherit_doc dev1_eq] theorem dev12_eq : (⟨k0_dev12 c, k0_dev12_lt c⟩ : Dev nD) = dst 2 c := by revert c; decide
@[inherit_doc dev1_eq] theorem dev13_eq : (⟨k0_dev13 c, k0_dev13_lt c⟩ : Dev nD) = dst 1 c := by revert c; decide
@[inherit_doc dev1_eq] theorem dev14_eq : (⟨k0_dev14 c, k0_dev14_lt c⟩ : Dev nD) = dst 3 c := by revert c; decide

/-- What landed in `comS j`, as a load of the whole slot returns it. -/
abbrev seen (j : Lane) : Vec F S1x1x256x1024 .bf16 := shapeCast S1x1x256x1024 (sent xs ds j (frm j.1 c)) shapeCasts_S256x1024_S1x1x256x1024

/-- The second step: the first staging slot is filled, and the operands of the second are read. -/
theorem part2 (v2 v29 v30 : BitVec 32) (v31 v32 v33 : BitVec 1) {Kt : FVec F S256x1024 .f32 → sProp 𝕄} :
    iprop(held c xM (xs c) ∗ held c dM (ds c) ∗ slotAny (F := F) c (stgS 0))
      ⊢ iprop(((held c xM (xs c) ∗ held c dM (ds c) ∗ full xs ds c (0, 0)) -∗ Kt (k0_pay3 (ds c) (xcol (xs c) (tgt 2 0 c))))
        -∗ runs c (k0_part2 xM (Memref.isWhole_whole _) dM (Memref.isWhole_whole _) oM (Memref.isWhole_whole _) bM (Memref.isWhole_whole _)
          sM (Memref.isWhole_whole _) cM (Memref.isWhole_whole _) cc0_scratch3 cc0_scratch4 c v2 v29 v30 v31 v32 v33) Kt) := by
  rw [k0_part2_eq_skeleton]; unfold k0_part2_skel
  simp only [Prog.lift, Prog.bind_op, Prog.bind_ret, Prog.pure_eq_ret]
  iintro ⟨Hx, Hd, ⟨%v, Hs⟩⟩ Hk
  iapply (wp_load_all c dM (ds c)) $$ [Hd]; · iexact Hd
  iintro Hd
  iapply (wp_load_x c (xs c) (tgt 0 0 c) (off1_eq c 0 rfl)) $$ [Hx]; · iexact Hx
  iintro Hx
  iapply (wp_load_stg c 0 v) $$ [Hs]; · iexact Hs
  iintro Hs
  iapply (wp_store_stg xs ds c 0 v _ (stage_eq (xs c) (tgt 0 0 c) 0 rfl (ds c))) $$ [Hs]; · iexact Hs
  iintro Hs
  iapply (wp_load_all c dM (ds c)) $$ [Hd]; · iexact Hd
  iintro Hd
  iapply (wp_load_x c (xs c) (tgt 2 0 c) (off2_eq c 2 rfl)) $$ [Hx]; · iexact Hx
  iintro Hx
  iapply (runs_ret c)
  iapply Hk
  unfold full
  isplitl [Hx]; · iexact Hx
  isplitl [Hd] <;> iassumption

/-- The barrier hands over the landing slots of every copy. -/
theorem ready_all :
    iprop((bigSep Finset.univ fun j : Lane => iprop(rights (F := F) j c ∗ places j c)) ∗ barPay (F := F) false c ∗ barPay (F := F) true c)
      ⊢ iprop(ready (0, 0) c ∗ bigSep (Finset.univ.erase ((0, 0) : Lane)) fun j => ready (F := F) j c) := by
  have hb : ∀ b, (barPay b c : sProp 𝕄) = bigSep (lanes b) fun j => slotAny (F := F) (dst j.1 c) (comS j) := fun b =>
    bigSep_congr fun j hj => by rw [dst, (Finset.mem_filter.mp hj).2]
  have hs : (bigSep Finset.univ fun j : Lane => (slotAny (F := F) (dst j.1 c) (comS j) : sProp 𝕄)) = iprop(barPay (F := F) false c ∗ barPay (F := F) true c) := by
    rw [hb, hb]
    rw [bigSep_filter_split Finset.univ (fun j : Lane => dir j.1 = false)]
    rw [show (Finset.univ.filter fun j : Lane => ¬ dir j.1 = false) = lanes true from Finset.filter_congr fun j _ => by cases dir j.1 <;> simp]
    rfl
  have h : (bigSep Finset.univ fun j : Lane => (ready j c : sProp 𝕄))
      = iprop((bigSep Finset.univ fun j : Lane => iprop(rights (F := F) j c ∗ places j c)) ∗ bigSep Finset.univ fun j : Lane => slotAny (F := F) (dst j.1 c) (comS j)) :=
    bigSep_sep' _ _ _
  have he : (bigSep Finset.univ fun j : Lane => (ready j c : sProp 𝕄)) = iprop(ready (0, 0) c ∗ bigSep (Finset.univ.erase ((0, 0) : Lane)) fun j => ready (F := F) j c) :=
    bigSep_erase (Finset.mem_univ ((0, 0) : Lane))
  rw [← he, h, hs]

/-- The third step: the second staging slot, the barrier, the first copy. -/
theorem part3 (v14 v25 : BitVec 32) {Kt : PUnit → sProp 𝕄} :
    iprop(known xs ds K ∗ slotAny (F := F) c (stgS 2) ∗ full xs ds c (0, 0)
        ∗ atPos ER (kcell (c, none)) 0 ∅ 0 ∗ cred (tallyAt (kcell (c, none)) () 2)
        ∗ dutyTok ER (kcell (nb false c, none)) 0 (!false) ∗ dutyTok ER (kcell (nb true c, none)) 0 (!true)
        ∗ (bigSep (lanes (!false)) fun j => slotAny (F := F) c (comS j)) ∗ (bigSep (lanes (!true)) fun j => slotAny (F := F) c (comS j))
        ∗ (bigSep Finset.univ fun j : Lane => iprop(rights (F := F) j c ∗ places j c)) ∗ owing c (O₀ c))
      ⊢ iprop(((full xs ds c (2, 0) ∗ flying (0, 0) c ∗ (bigSep (Finset.univ.erase ((0, 0) : Lane)) fun j => ready (F := F) j c)
            ∗ semVal (kcell (c, none)) 0 ∗ owing c (owed c order.tail)) -∗ Kt ⟨⟩)
        -∗ runs c (k0_part3 xM (Memref.isWhole_whole _) dM (Memref.isWhole_whole _) oM (Memref.isWhole_whole _) bM (Memref.isWhole_whole _)
          sM (Memref.isWhole_whole _) cM (Memref.isWhole_whole _) cc0_scratch3 cc0_scratch4 c v14 v25 (k0_pay3 (ds c) (xcol (xs c) (tgt 2 0 c)))) Kt) := by
  rw [k0_part3_eq_skeleton]; unfold k0_part3_skel
  simp only [semSignalWord, semWaitWord, Prog.lift, Prog.bind_op, Prog.bind_ret, Prog.pure_eq_ret]
  unfold full
  iintro ⟨#HK, ⟨%v, Hs⟩, Hf, HaB, HcB, HtP, HtN, HlP, HlN, Hrp, HO⟩ Hk
  iapply (wp_load_stg c 2 v) $$ [Hs]; · iexact Hs
  iintro Hs
  iapply (wp_store_stg xs ds c 2 v _ (stage_eq (xs c) (tgt 2 0 c) 2 rfl (ds c))) $$ [Hs]; · iexact Hs
  iintro Hs
  iapply (wp_signal_nb xs ds K false c _ (dev1_eq c) (owed c order + tallyAt (kcell (nxt c, none)) () 1)) $$ [HtP HlP HO]
  · isplitr; · iexact HK
    isplitl [HtP]; · iexact HtP
    isplitl [HlP]; · iexact HlP
    iexact HO
  iintro HO
  iapply (wp_signal_nb xs ds K true c _ (dev2_eq c) (owed c order)) $$ [HtN HlN HO]
  · isplitr; · iexact HK
    isplitl [HtN]; · iexact HtN
    isplitl [HlN]; · iexact HlN
    iexact HO
  iintro HO
  iapply (wp_wait_bar xs ds K c order) $$ [HaB HcB HO]
  · isplitr; · iexact HK
    isplitl [HaB]; · iexact HaB
    isplitl [HcB] <;> iassumption
  iintro ⟨Hb0, Hb1, Hz, HO⟩
  ihave Hr := (ready_all (F := F) c) $$ [Hrp Hb0 Hb1]
  · isplitl [Hrp]; · iexact Hrp
    isplitl [Hb0] <;> iassumption
  icases Hr with ⟨Hr, Hrs⟩
  iapply (wp_copy xs ds K (0, 0) c _ (dev3_eq c) order.tail) $$ [Hr Hf HO]
  · isplitr; · iexact HK
    isplitl [Hr]; · iexact Hr
    isplitl [Hf]; · iexact Hf
    iexact HO
  iintro ⟨Hfl, HO⟩
  iapply (runs_ret c)
  iapply Hk
  isplitl [Hs]; · iexact Hs
  isplitl [Hfl]; · iexact Hfl
  isplitl [Hrs]; · iexact Hrs
  isplitl [Hz]; · iexact Hz
  iexact HO

/-- The fourth step: strip 2's first copy starts, and strip 1's staging slot is filled. -/
theorem part4 (v2 : BitVec 32) {Kt : PUnit → sProp 𝕄} :
    iprop(known xs ds K ∗ ready (2, 0) c ∗ full xs ds c (2, 0) ∗ owing c (owed c ((2, 0) :: l)) ∗ held c xM (xs c) ∗ held c dM (ds c) ∗ slotAny (F := F) c (stgS 1))
      ⊢ iprop(((flying (2, 0) c ∗ owing c (owed c l) ∗ held c xM (xs c) ∗ held c dM (ds c) ∗ full xs ds c (1, 0)) -∗ Kt ⟨⟩)
        -∗ runs c (k0_part4 xM (Memref.isWhole_whole _) dM (Memref.isWhole_whole _) oM (Memref.isWhole_whole _) bM (Memref.isWhole_whole _)
          sM (Memref.isWhole_whole _) cM (Memref.isWhole_whole _) cc0_scratch3 cc0_scratch4 c v2) Kt) := by
  rw [k0_part4_eq_skeleton]; unfold k0_part4_skel
  simp only [Prog.lift, Prog.bind_op, Prog.bind_ret, Prog.pure_eq_ret]
  unfold full
  iintro ⟨HK, Hr, Hf, HO, Hx, Hd, ⟨%v, Hs⟩⟩ Hk
  iapply (wp_copy xs ds K (2, 0) c _ (dev4_eq c) l) $$ [HK Hr Hf HO]
  · isplitl [HK]; · iexact HK
    isplitl [Hr]; · iexact Hr
    isplitl [Hf] <;> iassumption
  iintro ⟨Hfl, HO⟩
  iapply (wp_load_all c dM (ds c)) $$ [Hd]; · iexact Hd
  iintro Hd
  iapply (wp_load_x c (xs c) (tgt 1 0 c) (off1_eq c 1 rfl)) $$ [Hx]; · iexact Hx
  iintro Hx
  iapply (wp_load_stg c 1 v) $$ [Hs]; · iexact Hs
  iintro Hs
  iapply (wp_store_stg xs ds c 1 v _ (stage_eq (xs c) (tgt 1 0 c) 1 rfl (ds c))) $$ [Hs]; · iexact Hs
  iintro Hs
  iapply (runs_ret c)
  iapply Hk
  isplitl [Hfl]; · iexact Hfl
  isplitl [HO]; · iexact HO
  isplitl [Hx]; · iexact Hx
  isplitl [Hd] <;> iassumption

/-- The fifth step: strip 1's first copy starts, and strip 3's staging slot is filled. -/
theorem part5 (v2 v25 : BitVec 32) {Kt : PUnit → sProp 𝕄} :
    iprop(known xs ds K ∗ ready (1, 0) c ∗ full xs ds c (1, 0) ∗ owing c (owed c ((1, 0) :: l)) ∗ held c xM (xs c) ∗ held c dM (ds c) ∗ slotAny (F := F) c (stgS 3))
      ⊢ iprop(((flying (1, 0) c ∗ owing c (owed c l) ∗ held c xM (xs c) ∗ held c dM (ds c) ∗ full xs ds c (3, 0)) -∗ Kt ⟨⟩)
        -∗ runs c (k0_part5 xM (Memref.isWhole_whole _) dM (Memref.isWhole_whole _) oM (Memref.isWhole_whole _) bM (Memref.isWhole_whole _)
          sM (Memref.isWhole_whole _) cM (Memref.isWhole_whole _) cc0_scratch3 cc0_scratch4 c v2 v25) Kt) := by
  rw [k0_part5_eq_skeleton]; unfold k0_part5_skel
  simp only [Prog.lift, Prog.bind_op, Prog.bind_ret, Prog.pure_eq_ret]
  unfold full
  iintro ⟨HK, Hr, Hf, HO, Hx, Hd, ⟨%v, Hs⟩⟩ Hk
  iapply (wp_copy xs ds K (1, 0) c _ (dev5_eq c) l) $$ [HK Hr Hf HO]
  · isplitl [HK]; · iexact HK
    isplitl [Hr]; · iexact Hr
    isplitl [Hf] <;> iassumption
  iintro ⟨Hfl, HO⟩
  iapply (wp_load_all c dM (ds c)) $$ [Hd]; · iexact Hd
  iintro Hd
  iapply (wp_load_x c (xs c) (tgt 3 0 c) (off2_eq c 3 rfl)) $$ [Hx]; · iexact Hx
  iintro Hx
  iapply (wp_load_stg c 3 v) $$ [Hs]; · iexact Hs
  iintro Hs
  iapply (wp_store_stg xs ds c 3 v _ (stage_eq (xs c) (tgt 3 0 c) 3 rfl (ds c))) $$ [Hs]; · iexact Hs
  iintro Hs
  iapply (runs_ret c)
  iapply Hk
  isplitl [Hfl]; · iexact Hfl
  isplitl [HO]; · iexact HO
  isplitl [Hx]; · iexact Hx
  isplitl [Hd] <;> iassumption

/-- The sixth step: strip 3's first copy starts, and the left half of `dy` is rounded into the bf16 scratch. -/
theorem part6 (v2 v14 : BitVec 32) (B : Vec F S1024x4096 .bf16) {Kt : (Σ' (_ : BitVec 32), Vec F S1024x4096 .bf16) → sProp 𝕄} :
    iprop(known xs ds K ∗ ready (3, 0) c ∗ full xs ds c (3, 0) ∗ owing c (owed c ((3, 0) :: l)) ∗ held c dM (ds c) ∗ held c bM B)
      ⊢ iprop((∀ w : BitVec 32, (flying (3, 0) c ∗ owing c (owed c l) ∗ held c dM (ds c) ∗ held c bM (halfLeft (ds c) B)) -∗ Kt ⟨w, halfLeft (ds c) B⟩)
        -∗ runs c (k0_part6 xM (Memref.isWhole_whole _) dM (Memref.isWhole_whole _) oM (Memref.isWhole_whole _) bM (Memref.isWhole_whole _)
          sM (Memref.isWhole_whole _) cM (Memref.isWhole_whole _) cc0_scratch3 cc0_scratch4 c v2 v14) Kt) := by
  rw [k0_part6_eq_skeleton]; unfold k0_part6_skel
  simp only [Prog.lift, Prog.bind_op, Prog.bind_ret, Prog.pure_eq_ret]
  unfold full
  iintro ⟨HK, Hr, Hf, HO, Hd, Hb⟩ Hk
  iapply (wp_copy xs ds K (3, 0) c _ (dev6_eq c) l) $$ [HK Hr Hf HO]
  · isplitl [HK]; · iexact HK
    isplitl [Hr]; · iexact Hr
    isplitl [Hf] <;> iassumption
  iintro ⟨Hfl, HO⟩
  iapply (wp_load_held c dM _ (ds c)) $$ [Hd]; · iexact Hd
  iintro Hd
  iapply (wp_load_held c bM _ B) $$ [Hb]; · iexact Hb
  iintro Hb
  iapply (wp_store_half c (ds c) B (halfLeft (ds c) B) 0 _ (by unfold k0_pay7; rw [shapeCast_self]; exact shapeCast_self _ _) (fun i => by
    unfold halfLeft; exact if_congr (by omega) rfl rfl)) $$ [Hb]; · iexact Hb
  iintro Hb
  iapply (wp_load_all c bM (halfLeft (ds c) B)) $$ [Hb]; · iexact Hb
  iintro Hb
  iapply (runs_ret c)
  iapply Hk
  isplitl [Hfl]; · iexact Hfl
  isplitl [HO]; · iexact HO
  isplitl [Hd] <;> iassumption

/-- The seventh step: the right half of `dy` is rounded, and the products that strips 0 and 2 add at the first hop are formed. -/
theorem part7 (v2 v191 : BitVec 32) (B : Vec F S1024x4096 .bf16) {Kt : (Σ' (_ : FVec F S256x1024 .f32), FVec F S256x1024 .f32) → sProp 𝕄} :
    iprop(held c xM (xs c) ∗ held c dM (ds c) ∗ held c bM (halfLeft (ds c) B))
      ⊢ iprop(((held c xM (xs c) ∗ held c dM (ds c) ∗ held c bM (half (ds c))) -∗ Kt ⟨mine xs ds c 0 1, mine xs ds c 2 1⟩)
        -∗ runs c (k0_part7 xM (Memref.isWhole_whole _) dM (Memref.isWhole_whole _) oM (Memref.isWhole_whole _) bM (Memref.isWhole_whole _)
          sM (Memref.isWhole_whole _) cM (Memref.isWhole_whole _) cc0_scratch3 cc0_scratch4 c v2 v191 (halfLeft (ds c) B)) Kt) := by
  rw [k0_part7_eq_skeleton]; unfold k0_part7_skel
  simp only [Prog.lift, Prog.bind_op, Prog.bind_ret, Prog.pure_eq_ret]
  iintro ⟨Hx, Hd, Hb⟩ Hk
  iapply (wp_load_x c (xs c) (tgt 0 1 c) (off3_eq c 0 rfl 0)) $$ [Hx]; · iexact Hx
  iintro Hx
  iapply (wp_load_held c dM _ (ds c)) $$ [Hd]; · iexact Hd
  iintro Hd
  iapply (wp_load_held c bM _ (halfLeft (ds c) B)) $$ [Hb]; · iexact Hb
  iintro Hb
  iapply (wp_store_half c (ds c) (halfLeft (ds c) B) (half (ds c)) 2048 _ (by unfold k0_pay9; rw [shapeCast_self]; exact shapeCast_self _ _) (fun i => by
    have hi : (i 1).val < 4096 := (i 1).isLt
    unfold halfLeft
    by_cases h : (i 1).val < 2048
    · rw [if_neg (by omega), if_pos h]
    · rw [if_pos ⟨by omega, by omega⟩])) $$ [Hb]; · iexact Hb
  iintro Hb
  iapply (wp_load_all c bM (half (ds c))) $$ [Hb]; · iexact Hb
  iintro Hb
  iapply (wp_load_x c (xs c) (tgt 2 1 c) (off4_eq c 2 rfl 0)) $$ [Hx]; · iexact Hx
  iintro Hx
  have h0 : k0_pay8 (halfLeft (ds c) B) (xcol (xs c) (tgt 0 1 c)) = mine xs ds c 0 1 :=
    (prod_eq (xs c) (tgt 0 1 c) 0 rfl (halfLeft (ds c) B)).trans (part_left _ _ _ _ fun i hi => if_pos hi)
  have h2 : k0_pay10 (half (ds c)) (xcol (xs c) (tgt 2 1 c)) = mine xs ds c 2 1 := prod_eq (xs c) (tgt 2 1 c) 2 rfl (half (ds c))
  rw [h0, h2]
  iapply (runs_ret c)
  iapply Hk
  isplitl [Hx]; · iexact Hx
  isplitl [Hd] <;> iassumption

/-- Strip 0, first hop: its copy is waited for on both sides, and the product is added where it landed. -/
theorem part8 (hl : ∀ i ∈ l, (0 : Fin 3) < i.2) (v25 : BitVec 32) {Kt : PUnit → sProp 𝕄} :
    iprop(known xs ds K ∗ flying (0, 0) c ∗ owing c (owed c l))
      ⊢ iprop(((past xs ds c (0, 0) ∗ full xs ds c (0, 1) ∗ owing c (owed c l)) -∗ Kt ⟨⟩)
        -∗ runs c (k0_part8 xM (Memref.isWhole_whole _) dM (Memref.isWhole_whole _) oM (Memref.isWhole_whole _) bM (Memref.isWhole_whole _)
          sM (Memref.isWhole_whole _) cM (Memref.isWhole_whole _) cc0_scratch3 cc0_scratch4 v25 (mine xs ds c 0 1)) Kt) := by
  rw [k0_part8_eq_skeleton]; unfold k0_part8_skel
  simp only [Prog.lift, Prog.bind_op, Prog.bind_ret, Prog.pure_eq_ret]
  iintro ⟨#HK, Hf, HO⟩ Hk
  iapply (wait_gone xs ds K c l (0, 0) rfl) $$ [Hf HO]
  · isplitr; · iexact HK
    isplitl [Hf] <;> iassumption
  iintro ⟨Hg, HO⟩
  iapply (wait_past xs ds K c l (0, 0) hl) $$ [Hg HO]
  · isplitr; · iexact HK
    isplitl [Hg] <;> iassumption
  iintro ⟨Hp, Hc, HO⟩
  unfold came full
  iapply (wp_load_com c (0, 0) _) $$ [Hc]; · iexact Hc
  iintro Hc
  iapply (wp_load_com c (0, 0) _) $$ [Hc]; · iexact Hc
  iintro Hc
  iapply (wp_store_com xs ds c 0 0 1 rfl _ (pass_eq _ _)) $$ [Hc]; · iexact Hc
  iintro Hc
  iapply (runs_ret c)
  iapply Hk
  isplitl [Hp]; · iexact Hp
  isplitl [Hc] <;> iassumption

/-- Strip 0's second copy starts from there; strip 2's first copy is waited for. -/
theorem part9 (hl : ∀ i ∈ l, (0 : Fin 3) < i.2) (v14 v25 : BitVec 32) {Kt : PUnit → sProp 𝕄} :
    iprop(known xs ds K ∗ ready (0, 1) c ∗ full xs ds c (0, 1) ∗ flying (2, 0) c ∗ owing c (owed c ((0, 1) :: l)))
      ⊢ iprop(((flying (0, 1) c ∗ past xs ds c (2, 0) ∗ came xs ds c (2, 0) ∗ owing c (owed c l)) -∗ Kt ⟨⟩)
        -∗ runs c (k0_part9 xM (Memref.isWhole_whole _) dM (Memref.isWhole_whole _) oM (Memref.isWhole_whole _) bM (Memref.isWhole_whole _)
          sM (Memref.isWhole_whole _) cM (Memref.isWhole_whole _) cc0_scratch3 cc0_scratch4 c v14 v25) Kt) := by
  rw [k0_part9_eq_skeleton]; unfold k0_part9_skel
  simp only [Prog.lift, Prog.bind_op, Prog.bind_ret, Prog.pure_eq_ret]
  unfold full
  iintro ⟨#HK, Hr, Hf, Hw, HO⟩ Hk
  iapply (wp_copy xs ds K (0, 1) c _ (dev7_eq c) l) $$ [Hr Hf HO]
  · isplitr; · iexact HK
    isplitl [Hr]; · iexact Hr
    isplitl [Hf] <;> iassumption
  iintro ⟨Hfl, HO⟩
  iapply (wait_gone xs ds K c l (2, 0) rfl) $$ [Hw HO]
  · isplitr; · iexact HK
    isplitl [Hw] <;> iassumption
  iintro ⟨Hg, HO⟩
  iapply (wait_past xs ds K c l (2, 0) hl) $$ [Hg HO]
  · isplitr; · iexact HK
    isplitl [Hg] <;> iassumption
  iintro ⟨Hp, Hc, HO⟩
  iapply (runs_ret c)
  iapply Hk
  isplitl [Hfl]; · iexact Hfl
  isplitl [Hp]; · iexact Hp
  isplitl [Hc] <;> iassumption

/-- Strip 2, first hop: the product is added where the copy landed, and the second copy starts. -/
theorem part10 (v2 v14 : BitVec 32) {Kt : (Σ' (_ : BitVec 32) (_ : BitVec 32), BitVec 1) → sProp 𝕄} :
    iprop(known xs ds K ∗ ready (2, 1) c ∗ came xs ds c (2, 0) ∗ owing c (owed c ((2, 1) :: l)))
      ⊢ iprop((∀ a b e, (flying (2, 1) c ∗ owing c (owed c l)) -∗ Kt ⟨a, b, e⟩)
        -∗ runs c (k0_part10 xM (Memref.isWhole_whole _) dM (Memref.isWhole_whole _) oM (Memref.isWhole_whole _) bM (Memref.isWhole_whole _)
          sM (Memref.isWhole_whole _) cM (Memref.isWhole_whole _) cc0_scratch3 cc0_scratch4 c v2 v14 (mine xs ds c 2 1)) Kt) := by
  rw [k0_part10_eq_skeleton]; unfold k0_part10_skel
  simp only [Prog.lift, Prog.bind_op, Prog.bind_ret, Prog.pure_eq_ret]
  unfold came
  iintro ⟨#HK, Hr, Hc, HO⟩ Hk
  iapply (wp_load_com c (2, 0) _) $$ [Hc]; · iexact Hc
  iintro Hc
  iapply (wp_load_com c (2, 0) _) $$ [Hc]; · iexact Hc
  iintro Hc
  iapply (wp_store_com xs ds c 2 0 1 rfl _ (pass_eq _ _)) $$ [Hc]; · iexact Hc
  iintro Hc
  iapply (wp_copy xs ds K (2, 1) c _ (dev8_eq c) l) $$ [Hr Hc HO]
  · isplitr; · iexact HK
    isplitl [Hr]; · iexact Hr
    isplitl [Hc] <;> iassumption
  iintro ⟨Hfl, HO⟩
  iapply (runs_ret c)
  iapply Hk
  isplitl [Hfl] <;> iassumption

/-- The products that strips 1 and 3 add at the first hop. -/
theorem part11 (v2 v294 v295 : BitVec 32) (v300 : BitVec 1) {Kt : (Σ' (_ : FVec F S256x1024 .f32), FVec F S256x1024 .f32) → sProp 𝕄} :
    iprop(held c xM (xs c) ∗ held c bM (half (ds c)))
      ⊢ iprop(((held c xM (xs c) ∗ held c bM (half (ds c))) -∗ Kt ⟨mine xs ds c 1 1, mine xs ds c 3 1⟩)
        -∗ runs c (k0_part11 xM (Memref.isWhole_whole _) dM (Memref.isWhole_whole _) oM (Memref.isWhole_whole _) bM (Memref.isWhole_whole _)
          sM (Memref.isWhole_whole _) cM (Memref.isWhole_whole _) cc0_scratch3 cc0_scratch4 c v2 v294 v295 v300) Kt) := by
  rw [k0_part11_eq_skeleton]; unfold k0_part11_skel
  simp only [Prog.lift, Prog.bind_op, Prog.bind_ret, Prog.pure_eq_ret]
  iintro ⟨Hx, Hb⟩ Hk
  iapply (wp_load_all c bM (half (ds c))) $$ [Hb]; · iexact Hb
  iintro Hb
  iapply (wp_load_x c (xs c) (tgt 1 1 c) (off3_eq c 1 rfl 0)) $$ [Hx]; · iexact Hx
  iintro Hx
  iapply (wp_load_all c bM (half (ds c))) $$ [Hb]; · iexact Hb
  iintro Hb
  iapply (wp_load_x c (xs c) (tgt 3 1 c) (off4_eq c 3 rfl 0)) $$ [Hx]; · iexact Hx
  iintro Hx
  have h1 : k0_pay13 (half (ds c)) (xcol (xs c) (tgt 1 1 c)) = mine xs ds c 1 1 := prod_eq (xs c) (tgt 1 1 c) 1 rfl (half (ds c))
  have h3 : k0_pay14 (half (ds c)) (xcol (xs c) (tgt 3 1 c)) = mine xs ds c 3 1 := prod_eq (xs c) (tgt 3 1 c) 3 rfl (half (ds c))
  rw [h1, h3]
  iapply (runs_ret c)
  iapply Hk
  isplitl [Hx] <;> iassumption

/-- Strip 1, first hop: its copy is waited for, and the product is added where it landed. -/
theorem part12 (hl : ∀ i ∈ l, (0 : Fin 3) < i.2) (v25 : BitVec 32) {Kt : PUnit → sProp 𝕄} :
    iprop(known xs ds K ∗ flying (1, 0) c ∗ owing c (owed c l))
      ⊢ iprop(((past xs ds c (1, 0) ∗ full xs ds c (1, 1) ∗ owing c (owed c l)) -∗ Kt ⟨⟩)
        -∗ runs c (k0_part12 xM (Memref.isWhole_whole _) dM (Memref.isWhole_whole _) oM (Memref.isWhole_whole _) bM (Memref.isWhole_whole _)
          sM (Memref.isWhole_whole _) cM (Memref.isWhole_whole _) cc0_scratch3 cc0_scratch4 v25 (mine xs ds c 1 1)) Kt) := by
  rw [k0_part12_eq_skeleton]; unfold k0_part12_skel
  simp only [Prog.lift, Prog.bind_op, Prog.bind_ret, Prog.pure_eq_ret]
  iintro ⟨#HK, Hf, HO⟩ Hk
  iapply (wait_gone xs ds K c l (1, 0) rfl) $$ [Hf HO]
  · isplitr; · iexact HK
    isplitl [Hf] <;> iassumption
  iintro ⟨Hg, HO⟩
  iapply (wait_past xs ds K c l (1, 0) hl) $$ [Hg HO]
  · isplitr; · iexact HK
    isplitl [Hg] <;> iassumption
  iintro ⟨Hp, Hc, HO⟩
  unfold came full
  iapply (wp_load_com c (1, 0) _) $$ [Hc]; · iexact Hc
  iintro Hc
  iapply (wp_load_com c (1, 0) _) $$ [Hc]; · iexact Hc
  iintro Hc
  iapply (wp_store_com xs ds c 1 0 1 rfl _ (pass_eq _ _)) $$ [Hc]; · iexact Hc
  iintro Hc
  iapply (runs_ret c)
  iapply Hk
  isplitl [Hp]; · iexact Hp
  isplitl [Hc] <;> iassumption

/-- Strip 1's second copy starts; strip 3's first copy is waited for, and its sum is formed. -/
theorem part13 (hl : ∀ i ∈ l, (0 : Fin 3) < i.2) (v14 : BitVec 32) {Kt : FVec F S256x1024 .f32 → sProp 𝕄} :
    iprop(known xs ds K ∗ ready (1, 1) c ∗ full xs ds c (1, 1) ∗ flying (3, 0) c ∗ owing c (owed c ((1, 1) :: l)))
      ⊢ iprop(((flying (1, 1) c ∗ past xs ds c (3, 0) ∗ came xs ds c (3, 0) ∗ owing c (owed c l))
          -∗ Kt (k0_pay16 (mine xs ds c 3 1) (seen xs ds c (3, 0))))
        -∗ runs c (k0_part13 xM (Memref.isWhole_whole _) dM (Memref.isWhole_whole _) oM (Memref.isWhole_whole _) bM (Memref.isWhole_whole _)
          sM (Memref.isWhole_whole _) cM (Memref.isWhole_whole _) cc0_scratch3 cc0_scratch4 c v14 (mine xs ds c 3 1)) Kt) := by
  rw [k0_part13_eq_skeleton]; unfold k0_part13_skel
  simp only [Prog.lift, Prog.bind_op, Prog.bind_ret, Prog.pure_eq_ret]
  unfold full
  iintro ⟨#HK, Hr, Hf, Hw, HO⟩ Hk
  iapply (wp_copy xs ds K (1, 1) c _ (dev9_eq c) l) $$ [Hr Hf HO]
  · isplitr; · iexact HK
    isplitl [Hr]; · iexact Hr
    isplitl [Hf] <;> iassumption
  iintro ⟨Hfl, HO⟩
  iapply (wait_gone xs ds K c l (3, 0) rfl) $$ [Hw HO]
  · isplitr; · iexact HK
    isplitl [Hw] <;> iassumption
  iintro ⟨Hg, HO⟩
  iapply (wait_past xs ds K c l (3, 0) hl) $$ [Hg HO]
  · isplitr; · iexact HK
    isplitl [Hg] <;> iassumption
  iintro ⟨Hp, Hc, HO⟩
  unfold came
  iapply (wp_load_com c (3, 0) _) $$ [Hc]; · iexact Hc
  iintro Hc
  iapply (runs_ret c)
  iapply Hk
  isplitl [Hfl]; · iexact Hfl
  isplitl [Hp]; · iexact Hp
  isplitl [Hc] <;> iassumption

/-- Strip 3, first hop: the sum is stored where the copy landed, and the second copy starts. -/
theorem part14 (v2 v14 : BitVec 32) {Kt : (Σ' (_ : BitVec 32) (_ : Vec F S1024x4096 .bf16), BitVec 32) → sProp 𝕄} :
    iprop(known xs ds K ∗ ready (3, 1) c ∗ came xs ds c (3, 0) ∗ owing c (owed c ((3, 1) :: l)) ∗ held c bM (half (ds c)))
      ⊢ iprop((∀ w w', (flying (3, 1) c ∗ owing c (owed c l) ∗ held c bM (half (ds c))) -∗ Kt ⟨w, half (ds c), w'⟩)
        -∗ runs c (k0_part14 xM (Memref.isWhole_whole _) dM (Memref.isWhole_whole _) oM (Memref.isWhole_whole _) bM (Memref.isWhole_whole _)
          sM (Memref.isWhole_whole _) cM (Memref.isWhole_whole _) cc0_scratch3 cc0_scratch4 c v2 v14 (k0_pay16 (mine xs ds c 3 1) (seen xs ds c (3, 0)))) Kt) := by
  rw [k0_part14_eq_skeleton]; unfold k0_part14_skel
  simp only [Prog.lift, Prog.bind_op, Prog.bind_ret, Prog.pure_eq_ret]
  unfold came
  iintro ⟨#HK, Hr, Hc, HO, Hb⟩ Hk
  iapply (wp_load_com c (3, 0) _) $$ [Hc]; · iexact Hc
  iintro Hc
  iapply (wp_store_com xs ds c 3 0 1 rfl _ (pass_eq _ _)) $$ [Hc]; · iexact Hc
  iintro Hc
  iapply (wp_copy xs ds K (3, 1) c _ (dev10_eq c) l) $$ [Hr Hc HO]
  · isplitr; · iexact HK
    isplitl [Hr]; · iexact Hr
    isplitl [Hc] <;> iassumption
  iintro ⟨Hfl, HO⟩
  iapply (wp_load_all c bM (half (ds c))) $$ [Hb]; · iexact Hb
  iintro Hb
  iapply (runs_ret c)
  iapply Hk
  isplitl [Hfl]; · iexact Hfl
  isplitl [HO] <;> iassumption

/-- The products that strips 0 and 2 add at the second hop. -/
theorem part15 (v2 v407 w : BitVec 32) {Kt : (Σ' (_ : FVec F S256x1024 .f32) (_ : FVec F S256x1024 .f32) (_ : BitVec 32) (_ : BitVec 32) (_ : BitVec 1) (_ : BitVec 1), BitVec 1) → sProp 𝕄} :
    iprop(held c xM (xs c) ∗ held c bM (half (ds c)))
      ⊢ iprop((∀ a b d e f, (held c xM (xs c) ∗ held c bM (half (ds c))) -∗ Kt ⟨mine xs ds c 0 2, mine xs ds c 2 2, a, b, d, e, f⟩)
        -∗ runs c (k0_part15 xM (Memref.isWhole_whole _) dM (Memref.isWhole_whole _) oM (Memref.isWhole_whole _) bM (Memref.isWhole_whole _)
          sM (Memref.isWhole_whole _) cM (Memref.isWhole_whole _) cc0_scratch3 cc0_scratch4 c v2 v407 (half (ds c)) w) Kt) := by
  rw [k0_part15_eq_skeleton]; unfold k0_part15_skel
  simp only [Prog.lift, Prog.bind_op, Prog.bind_ret, Prog.pure_eq_ret]
  iintro ⟨Hx, Hb⟩ Hk
  iapply (wp_load_x c (xs c) (tgt 0 2 c) (off3_eq c 0 rfl 1)) $$ [Hx]; · iexact Hx
  iintro Hx
  iapply (wp_load_all c bM (half (ds c))) $$ [Hb]; · iexact Hb
  iintro Hb
  iapply (wp_load_x c (xs c) (tgt 2 2 c) (off4_eq c 2 rfl 1)) $$ [Hx]; · iexact Hx
  iintro Hx
  have h0 : k0_pay18 (half (ds c)) (xcol (xs c) (tgt 0 2 c)) = mine xs ds c 0 2 := prod_eq (xs c) (tgt 0 2 c) 0 rfl (half (ds c))
  have h2 : k0_pay19 (half (ds c)) (xcol (xs c) (tgt 2 2 c)) = mine xs ds c 2 2 := prod_eq (xs c) (tgt 2 2 c) 2 rfl (half (ds c))
  rw [h0, h2]
  iapply (runs_ret c)
  iapply Hk
  isplitl [Hx] <;> iassumption

/-- The products that strips 1 and 3 add at the second hop. -/
theorem part16 (v2 v440 v441 : BitVec 32) (v442 v443 v444 : BitVec 1) {Kt : (Σ' (_ : FVec F S256x1024 .f32), FVec F S256x1024 .f32) → sProp 𝕄} :
    iprop(held c xM (xs c) ∗ held c bM (half (ds c)))
      ⊢ iprop(((held c xM (xs c) ∗ held c bM (half (ds c))) -∗ Kt ⟨mine xs ds c 1 2, mine xs ds c 3 2⟩)
        -∗ runs c (k0_part16 xM (Memref.isWhole_whole _) dM (Memref.isWhole_whole _) oM (Memref.isWhole_whole _) bM (Memref.isWhole_whole _)
          sM (Memref.isWhole_whole _) cM (Memref.isWhole_whole _) cc0_scratch3 cc0_scratch4 c v2 v440 v441 v442 v443 v444) Kt) := by
  rw [k0_part16_eq_skeleton]; unfold k0_part16_skel
  simp only [Prog.lift, Prog.bind_op, Prog.bind_ret, Prog.pure_eq_ret]
  iintro ⟨Hx, Hb⟩ Hk
  iapply (wp_load_all c bM (half (ds c))) $$ [Hb]; · iexact Hb
  iintro Hb
  iapply (wp_load_x c (xs c) (tgt 1 2 c) (off3_eq c 1 rfl 1)) $$ [Hx]; · iexact Hx
  iintro Hx
  iapply (wp_load_all c bM (half (ds c))) $$ [Hb]; · iexact Hb
  iintro Hb
  iapply (wp_load_x c (xs c) (tgt 3 2 c) (off4_eq c 3 rfl 1)) $$ [Hx]; · iexact Hx
  iintro Hx
  have h1 : k0_pay20 (half (ds c)) (xcol (xs c) (tgt 1 2 c)) = mine xs ds c 1 2 := prod_eq (xs c) (tgt 1 2 c) 1 rfl (half (ds c))
  have h3 : k0_pay21 (half (ds c)) (xcol (xs c) (tgt 3 2 c)) = mine xs ds c 3 2 := prod_eq (xs c) (tgt 3 2 c) 3 rfl (half (ds c))
  rw [h1, h3]
  iapply (runs_ret c)
  iapply Hk
  isplitl [Hx] <;> iassumption

/-- Strip 0, second hop: its copy is waited for, and the product is added where it landed. -/
theorem part17 (hl : ∀ i ∈ l, (1 : Fin 3) < i.2) (v25 : BitVec 32) {Kt : BitVec 32 → sProp 𝕄} :
    iprop(known xs ds K ∗ flying (0, 1) c ∗ owing c (owed c l))
      ⊢ iprop((∀ w, (past xs ds c (0, 1) ∗ full xs ds c (0, 2) ∗ owing c (owed c l)) -∗ Kt w)
        -∗ runs c (k0_part17 xM (Memref.isWhole_whole _) dM (Memref.isWhole_whole _) oM (Memref.isWhole_whole _) bM (Memref.isWhole_whole _)
          sM (Memref.isWhole_whole _) cM (Memref.isWhole_whole _) cc0_scratch3 cc0_scratch4 v25 (mine xs ds c 0 2)) Kt) := by
  rw [k0_part17_eq_skeleton]; unfold k0_part17_skel
  simp only [Prog.lift, Prog.bind_op, Prog.bind_ret, Prog.pure_eq_ret]
  iintro ⟨#HK, Hf, HO⟩ Hk
  iapply (wait_gone xs ds K c l (0, 1) rfl) $$ [Hf HO]
  · isplitr; · iexact HK
    isplitl [Hf] <;> iassumption
  iintro ⟨Hg, HO⟩
  iapply (wait_past xs ds K c l (0, 1) hl) $$ [Hg HO]
  · isplitr; · iexact HK
    isplitl [Hg] <;> iassumption
  iintro ⟨Hp, Hc, HO⟩
  unfold came full
  iapply (wp_load_com c (0, 1) _) $$ [Hc]; · iexact Hc
  iintro Hc
  iapply (wp_load_com c (0, 1) _) $$ [Hc]; · iexact Hc
  iintro Hc
  iapply (wp_store_com xs ds c 0 1 2 rfl _ (pass_eq _ _)) $$ [Hc]; · iexact Hc
  iintro Hc
  iapply (runs_ret c)
  iapply Hk
  isplitl [Hp]; · iexact Hp
  isplitl [Hc] <;> iassumption

/-- Strip 0's third copy starts; strip 2's second copy is waited for. -/
theorem part18 (hl : ∀ i ∈ l, (1 : Fin 3) < i.2) (v14 v499 : BitVec 32) {Kt : PUnit → sProp 𝕄} :
    iprop(known xs ds K ∗ ready (0, 2) c ∗ full xs ds c (0, 2) ∗ flying (2, 1) c ∗ owing c (owed c ((0, 2) :: l)))
      ⊢ iprop(((flying (0, 2) c ∗ past xs ds c (2, 1) ∗ came xs ds c (2, 1) ∗ owing c (owed c l)) -∗ Kt ⟨⟩)
        -∗ runs c (k0_part18 xM (Memref.isWhole_whole _) dM (Memref.isWhole_whole _) oM (Memref.isWhole_whole _) bM (Memref.isWhole_whole _)
          sM (Memref.isWhole_whole _) cM (Memref.isWhole_whole _) cc0_scratch3 cc0_scratch4 c v14 v499) Kt) := by
  rw [k0_part18_eq_skeleton]; unfold k0_part18_skel
  simp only [Prog.lift, Prog.bind_op, Prog.bind_ret, Prog.pure_eq_ret]
  unfold full
  iintro ⟨#HK, Hr, Hf, Hw, HO⟩ Hk
  iapply (wp_copy xs ds K (0, 2) c _ (dev11_eq c) l) $$ [Hr Hf HO]
  · isplitr; · iexact HK
    isplitl [Hr]; · iexact Hr
    isplitl [Hf] <;> iassumption
  iintro ⟨Hfl, HO⟩
  iapply (wait_gone xs ds K c l (2, 1) rfl) $$ [Hw HO]
  · isplitr; · iexact HK
    isplitl [Hw] <;> iassumption
  iintro ⟨Hg, HO⟩
  iapply (wait_past xs ds K c l (2, 1) hl) $$ [Hg HO]
  · isplitr; · iexact HK
    isplitl [Hg] <;> iassumption
  iintro ⟨Hp, Hc, HO⟩
  iapply (runs_ret c)
  iapply Hk
  isplitl [Hfl]; · iexact Hfl
  isplitl [Hp]; · iexact Hp
  isplitl [Hc] <;> iassumption

/-- Strip 2, second hop: the product is added and the third copy starts; strip 1's second copy is waited for on the sending side. -/
theorem part19 (v14 : BitVec 32) {Kt : PUnit → sProp 𝕄} :
    iprop(known xs ds K ∗ ready (2, 2) c ∗ came xs ds c (2, 1) ∗ flying (1, 1) c ∗ owing c (owed c ((2, 2) :: l)))
      ⊢ iprop(((flying (2, 2) c ∗ gone xs ds c (1, 1) ∗ owing c (owed c l)) -∗ Kt ⟨⟩)
        -∗ runs c (k0_part19 xM (Memref.isWhole_whole _) dM (Memref.isWhole_whole _) oM (Memref.isWhole_whole _) bM (Memref.isWhole_whole _)
          sM (Memref.isWhole_whole _) cM (Memref.isWhole_whole _) cc0_scratch3 cc0_scratch4 c v14 (mine xs ds c 2 2)) Kt) := by
  rw [k0_part19_eq_skeleton]; unfold k0_part19_skel
  simp only [Prog.lift, Prog.bind_op, Prog.bind_ret, Prog.pure_eq_ret]
  unfold came
  iintro ⟨#HK, Hr, Hc, Hw, HO⟩ Hk
  iapply (wp_load_com c (2, 1) _) $$ [Hc]; · iexact Hc
  iintro Hc
  iapply (wp_load_com c (2, 1) _) $$ [Hc]; · iexact Hc
  iintro Hc
  iapply (wp_store_com xs ds c 2 1 2 rfl _ (pass_eq _ _)) $$ [Hc]; · iexact Hc
  iintro Hc
  iapply (wp_copy xs ds K (2, 2) c _ (dev12_eq c) l) $$ [Hr Hc HO]
  · isplitr; · iexact HK
    isplitl [Hr]; · iexact Hr
    isplitl [Hc] <;> iassumption
  iintro ⟨Hfl, HO⟩
  iapply (wait_gone xs ds K c l (1, 1) rfl) $$ [Hw HO]
  · isplitr; · iexact HK
    isplitl [Hw] <;> iassumption
  iintro ⟨Hg, HO⟩
  iapply (runs_ret c)
  iapply Hk
  isplitl [Hfl]; · iexact Hfl
  isplitl [Hg] <;> iassumption

/-- Strip 1, second hop: its copy is waited for on the receiving side, and the product is added where it landed. -/
theorem part20 (hl : ∀ i ∈ l, (1 : Fin 3) < i.2) (v25 : BitVec 32) {Kt : PUnit → sProp 𝕄} :
    iprop(known xs ds K ∗ gone xs ds c (1, 1) ∗ owing c (owed c l))
      ⊢ iprop(((past xs ds c (1, 1) ∗ full xs ds c (1, 2) ∗ owing c (owed c l)) -∗ Kt ⟨⟩)
        -∗ runs c (k0_part20 xM (Memref.isWhole_whole _) dM (Memref.isWhole_whole _) oM (Memref.isWhole_whole _) bM (Memref.isWhole_whole _)
          sM (Memref.isWhole_whole _) cM (Memref.isWhole_whole _) cc0_scratch3 cc0_scratch4 v25 (mine xs ds c 1 2)) Kt) := by
  rw [k0_part20_eq_skeleton]; unfold k0_part20_skel
  simp only [Prog.lift, Prog.bind_op, Prog.bind_ret, Prog.pure_eq_ret]
  iintro ⟨#HK, Hg, HO⟩ Hk
  iapply (wait_past xs ds K c l (1, 1) hl) $$ [Hg HO]
  · isplitr; · iexact HK
    isplitl [Hg] <;> iassumption
  iintro ⟨Hp, Hc, HO⟩
  unfold came full
  iapply (wp_load_com c (1, 1) _) $$ [Hc]; · iexact Hc
  iintro Hc
  iapply (wp_load_com c (1, 1) _) $$ [Hc]; · iexact Hc
  iintro Hc
  iapply (wp_store_com xs ds c 1 1 2 rfl _ (pass_eq _ _)) $$ [Hc]; · iexact Hc
  iintro Hc
  iapply (runs_ret c)
  iapply Hk
  isplitl [Hp]; · iexact Hp
  isplitl [Hc] <;> iassumption

/-- Strip 1's third copy starts; strip 3's second copy is waited for, and its sum is formed. -/
theorem part21 (hl : ∀ i ∈ l, (1 : Fin 3) < i.2) (v14 : BitVec 32) {Kt : FVec F S256x1024 .bf16 → sProp 𝕄} :
    iprop(known xs ds K ∗ ready (1, 2) c ∗ full xs ds c (1, 2) ∗ flying (3, 1) c ∗ owing c (owed c ((1, 2) :: l)))
      ⊢ iprop(((flying (1, 2) c ∗ past xs ds c (3, 1) ∗ came xs ds c (3, 1) ∗ owing c (owed c l))
          -∗ Kt (k0_pay25 (mine xs ds c 3 2) (seen xs ds c (3, 1))))
        -∗ runs c (k0_part21 xM (Memref.isWhole_whole _) dM (Memref.isWhole_whole _) oM (Memref.isWhole_whole _) bM (Memref.isWhole_whole _)
          sM (Memref.isWhole_whole _) cM (Memref.isWhole_whole _) cc0_scratch3 cc0_scratch4 c v14 (mine xs ds c 3 2)) Kt) := by
  rw [k0_part21_eq_skeleton]; unfold k0_part21_skel
  simp only [Prog.lift, Prog.bind_op, Prog.bind_ret, Prog.pure_eq_ret]
  unfold full
  iintro ⟨#HK, Hr, Hf, Hw, HO⟩ Hk
  iapply (wp_copy xs ds K (1, 2) c _ (dev13_eq c) l) $$ [Hr Hf HO]
  · isplitr; · iexact HK
    isplitl [Hr]; · iexact Hr
    isplitl [Hf] <;> iassumption
  iintro ⟨Hfl, HO⟩
  iapply (wait_gone xs ds K c l (3, 1) rfl) $$ [Hw HO]
  · isplitr; · iexact HK
    isplitl [Hw] <;> iassumption
  iintro ⟨Hg, HO⟩
  iapply (wait_past xs ds K c l (3, 1) hl) $$ [Hg HO]
  · isplitr; · iexact HK
    isplitl [Hg] <;> iassumption
  iintro ⟨Hp, Hc, HO⟩
  unfold came
  iapply (wp_load_com c (3, 1) _) $$ [Hc]; · iexact Hc
  iintro Hc
  iapply (runs_ret c)
  iapply Hk
  isplitl [Hfl]; · iexact Hfl
  isplitl [Hp]; · iexact Hp
  isplitl [Hc] <;> iassumption

/-- Strip 3, second hop: the sum is stored where the copy landed, and the third copy starts; the operands of strip 0's last product are read. -/
theorem part22 (v2 v14 : BitVec 32) {Kt : (Σ' (_ : Vec F S1024x4096 .bf16), Vec F S1024x256 .f32) → sProp 𝕄} :
    iprop(known xs ds K ∗ ready (3, 2) c ∗ came xs ds c (3, 1) ∗ owing c (owed c ((3, 2) :: l)) ∗ held c xM (xs c) ∗ held c bM (half (ds c)))
      ⊢ iprop(((flying (3, 2) c ∗ owing c (owed c l) ∗ held c xM (xs c) ∗ held c bM (half (ds c)))
          -∗ Kt ⟨half (ds c), xcol (xs c) (tgt 0 3 c)⟩)
        -∗ runs c (k0_part22 xM (Memref.isWhole_whole _) dM (Memref.isWhole_whole _) oM (Memref.isWhole_whole _) bM (Memref.isWhole_whole _)
          sM (Memref.isWhole_whole _) cM (Memref.isWhole_whole _) cc0_scratch3 cc0_scratch4 c v2 v14 (k0_pay25 (mine xs ds c 3 2) (seen xs ds c (3, 1)))) Kt) := by
  rw [k0_part22_eq_skeleton]; unfold k0_part22_skel
  simp only [Prog.lift, Prog.bind_op, Prog.bind_ret, Prog.pure_eq_ret]
  unfold came
  iintro ⟨#HK, Hr, Hc, HO, Hx, Hb⟩ Hk
  iapply (wp_load_com c (3, 1) _) $$ [Hc]; · iexact Hc
  iintro Hc
  iapply (wp_store_com xs ds c 3 1 2 rfl _ (pass_eq _ _)) $$ [Hc]; · iexact Hc
  iintro Hc
  iapply (wp_copy xs ds K (3, 2) c _ (dev14_eq c) l) $$ [Hr Hc HO]
  · isplitr; · iexact HK
    isplitl [Hr]; · iexact Hr
    isplitl [Hc] <;> iassumption
  iintro ⟨Hfl, HO⟩
  iapply (wp_load_all c bM (half (ds c))) $$ [Hb]; · iexact Hb
  iintro Hb
  iapply (wp_load_x c (xs c) (tgt 0 3 c) (off3_eq c 0 rfl 2)) $$ [Hx]; · iexact Hx
  iintro Hx
  iapply (runs_ret c)
  iapply Hk
  isplitl [Hfl]; · iexact Hfl
  isplitl [HO]; · iexact HO
  isplitl [Hx] <;> iassumption

/-- The last products of strips 0 and 2. -/
theorem part23 (v2 : BitVec 32) {Kt : (Σ' (_ : FVec F S256x1024 .f32) (_ : FVec F S256x1024 .f32), BitVec 32) → sProp 𝕄} :
    iprop(held c xM (xs c) ∗ held c bM (half (ds c)))
      ⊢ iprop((∀ w : BitVec 32, (held c xM (xs c) ∗ held c bM (half (ds c))) -∗ Kt ⟨mine xs ds c 0 3, mine xs ds c 2 3, w⟩)
        -∗ runs c (k0_part23 xM (Memref.isWhole_whole _) dM (Memref.isWhole_whole _) oM (Memref.isWhole_whole _) bM (Memref.isWhole_whole _)
          sM (Memref.isWhole_whole _) cM (Memref.isWhole_whole _) cc0_scratch3 cc0_scratch4 c v2 (half (ds c)) (xcol (xs c) (tgt 0 3 c))) Kt) := by
  rw [k0_part23_eq_skeleton]; unfold k0_part23_skel
  simp only [Prog.lift, Prog.bind_op, Prog.bind_ret, Prog.pure_eq_ret]
  iintro ⟨Hx, Hb⟩ Hk
  iapply (wp_load_all c bM (half (ds c))) $$ [Hb]; · iexact Hb
  iintro Hb
  iapply (wp_load_x c (xs c) (tgt 2 3 c) (off4_eq c 2 rfl 2)) $$ [Hx]; · iexact Hx
  iintro Hx
  have h0 : k0_pay27 (half (ds c)) (xcol (xs c) (tgt 0 3 c)) = mine xs ds c 0 3 := prod_eq (xs c) (tgt 0 3 c) 0 rfl (half (ds c))
  have h2 : k0_pay28 (half (ds c)) (xcol (xs c) (tgt 2 3 c)) = mine xs ds c 2 3 := prod_eq (xs c) (tgt 2 3 c) 2 rfl (half (ds c))
  rw [h0, h2]
  iapply (runs_ret c)
  iapply Hk
  isplitl [Hx] <;> iassumption

/-- The last products of strips 1 and 3. -/
theorem part24 (v2 v658 : BitVec 32) {Kt : (Σ' (_ : FVec F S256x1024 .f32), FVec F S256x1024 .f32) → sProp 𝕄} :
    iprop(held c xM (xs c) ∗ held c bM (half (ds c)))
      ⊢ iprop(((held c xM (xs c) ∗ held c bM (half (ds c))) -∗ Kt ⟨mine xs ds c 1 3, mine xs ds c 3 3⟩)
        -∗ runs c (k0_part24 xM (Memref.isWhole_whole _) dM (Memref.isWhole_whole _) oM (Memref.isWhole_whole _) bM (Memref.isWhole_whole _)
          sM (Memref.isWhole_whole _) cM (Memref.isWhole_whole _) cc0_scratch3 cc0_scratch4 c v2 v658) Kt) := by
  rw [k0_part24_eq_skeleton]; unfold k0_part24_skel
  simp only [Prog.lift, Prog.bind_op, Prog.bind_ret, Prog.pure_eq_ret]
  iintro ⟨Hx, Hb⟩ Hk
  iapply (wp_load_all c bM (half (ds c))) $$ [Hb]; · iexact Hb
  iintro Hb
  iapply (wp_load_x c (xs c) (tgt 1 3 c) (off3_eq c 1 rfl 2)) $$ [Hx]; · iexact Hx
  iintro Hx
  iapply (wp_load_all c bM (half (ds c))) $$ [Hb]; · iexact Hb
  iintro Hb
  iapply (wp_load_x c (xs c) (tgt 3 3 c) (off4_eq c 3 rfl 2)) $$ [Hx]; · iexact Hx
  iintro Hx
  have h1 : k0_pay29 (half (ds c)) (xcol (xs c) (tgt 1 3 c)) = mine xs ds c 1 3 := prod_eq (xs c) (tgt 1 3 c) 1 rfl (half (ds c))
  have h3 : k0_pay30 (half (ds c)) (xcol (xs c) (tgt 3 3 c)) = mine xs ds c 3 3 := prod_eq (xs c) (tgt 3 3 c) 3 rfl (half (ds c))
  rw [h1, h3]
  iapply (runs_ret c)
  iapply Hk
  isplitl [Hx] <;> iassumption

/-- The last sum of a strip is what the kernel stores. -/
theorem last_eq (r : Fin 4) : addf (extf (φ := .bf16) .f32 (shapeCast S256x1024 (seen xs ds c (r, 2)) shapeCasts_S1x1x256x1024_S256x1024)) (mine xs ds c r 3)
    = acc xs ds r 3 c := join_eq _ _

/-- Strip 0, last hop: its copy is waited for, and what landed plus the last product is stored in the strip's columns of the result. -/
theorem part25 (hl : ∀ i ∈ l, (2 : Fin 3) < i.2) (v25 : BitVec 32) (X : Vec F S256x4096 .f32) {Kt : PUnit → sProp 𝕄} :
    iprop(known xs ds K ∗ flying (0, 2) c ∗ owing c (owed c l) ∗ held c oM (mix xs ds c ∅ X))
      ⊢ iprop(((past xs ds c (0, 2) ∗ came xs ds c (0, 2) ∗ owing c (owed c l) ∗ held c oM (mix xs ds c (insert 0 ∅) X)) -∗ Kt ⟨⟩)
        -∗ runs c (k0_part25 xM (Memref.isWhole_whole _) dM (Memref.isWhole_whole _) oM (Memref.isWhole_whole _) bM (Memref.isWhole_whole _)
          sM (Memref.isWhole_whole _) cM (Memref.isWhole_whole _) cc0_scratch3 cc0_scratch4 v25 (mine xs ds c 0 3)) Kt) := by
  rw [k0_part25_eq_skeleton]; unfold k0_part25_skel
  simp only [Prog.lift, Prog.bind_op, Prog.bind_ret, Prog.pure_eq_ret]
  iintro ⟨#HK, Hf, HO, Ho⟩ Hk
  iapply (wait_gone xs ds K c l (0, 2) rfl) $$ [Hf HO]
  · isplitr; · iexact HK
    isplitl [Hf] <;> iassumption
  iintro ⟨Hg, HO⟩
  iapply (wait_past xs ds K c l (0, 2) hl) $$ [Hg HO]
  · isplitr; · iexact HK
    isplitl [Hg] <;> iassumption
  iintro ⟨Hp, Hc, HO⟩
  unfold came
  iapply (wp_load_com c (0, 2) _) $$ [Hc]; · iexact Hc
  iintro Hc
  iapply (wp_load_held c oM _ _) $$ [Ho]; · iexact Ho
  iintro Ho
  iapply (wp_store_strip xs ds c ∅ 0 X rfl _ (last_eq xs ds c 0)) $$ [Ho]; · iexact Ho
  iintro Ho
  iapply (runs_ret c)
  iapply Hk
  isplitl [Hp]; · iexact Hp
  isplitl [Hc]; · iexact Hc
  isplitl [HO] <;> iassumption

/-- Strip 2, last hop: the same; strip 1's last copy is waited for on the sending side. -/
theorem part26 (hl : ∀ i ∈ l, (2 : Fin 3) < i.2) (v14 : BitVec 32) (X : Vec F S256x4096 .f32) (S : Finset (Fin 4)) {Kt : PUnit → sProp 𝕄} :
    iprop(known xs ds K ∗ flying (2, 2) c ∗ flying (1, 2) c ∗ owing c (owed c l) ∗ held c oM (mix xs ds c S X))
      ⊢ iprop(((past xs ds c (2, 2) ∗ came xs ds c (2, 2) ∗ gone xs ds c (1, 2) ∗ owing c (owed c l) ∗ held c oM (mix xs ds c (insert 2 S) X)) -∗ Kt ⟨⟩)
        -∗ runs c (k0_part26 xM (Memref.isWhole_whole _) dM (Memref.isWhole_whole _) oM (Memref.isWhole_whole _) bM (Memref.isWhole_whole _)
          sM (Memref.isWhole_whole _) cM (Memref.isWhole_whole _) cc0_scratch3 cc0_scratch4 v14 (mine xs ds c 2 3)) Kt) := by
  rw [k0_part26_eq_skeleton]; unfold k0_part26_skel
  simp only [Prog.lift, Prog.bind_op, Prog.bind_ret, Prog.pure_eq_ret]
  iintro ⟨#HK, Hf, Hf', HO, Ho⟩ Hk
  iapply (wait_gone xs ds K c l (2, 2) rfl) $$ [Hf HO]
  · isplitr; · iexact HK
    isplitl [Hf] <;> iassumption
  iintro ⟨Hg, HO⟩
  iapply (wait_past xs ds K c l (2, 2) hl) $$ [Hg HO]
  · isplitr; · iexact HK
    isplitl [Hg] <;> iassumption
  iintro ⟨Hp, Hc, HO⟩
  unfold came
  iapply (wp_load_com c (2, 2) _) $$ [Hc]; · iexact Hc
  iintro Hc
  iapply (wp_load_held c oM _ _) $$ [Ho]; · iexact Ho
  iintro Ho
  iapply (wp_store_strip xs ds c S 2 X rfl _ (last_eq xs ds c 2)) $$ [Ho]; · iexact Ho
  iintro Ho
  iapply (wait_gone xs ds K c l (1, 2) rfl) $$ [Hf' HO]
  · isplitr; · iexact HK
    isplitl [Hf'] <;> iassumption
  iintro ⟨Hg, HO⟩
  iapply (runs_ret c)
  iapply Hk
  isplitl [Hp]; · iexact Hp
  isplitl [Hc]; · iexact Hc
  isplitl [Hg]; · iexact Hg
  isplitl [HO] <;> iassumption

/-- Strip 1, last hop: the same; strip 3's last copy is waited for on the sending side. -/
theorem part27 (hl : ∀ i ∈ l, (2 : Fin 3) < i.2) (v25 : BitVec 32) (X : Vec F S256x4096 .f32) (S : Finset (Fin 4)) {Kt : BitVec 32 → sProp 𝕄} :
    iprop(known xs ds K ∗ gone xs ds c (1, 2) ∗ flying (3, 2) c ∗ owing c (owed c l) ∗ held c oM (mix xs ds c S X))
      ⊢ iprop((∀ w, (past xs ds c (1, 2) ∗ came xs ds c (1, 2) ∗ gone xs ds c (3, 2) ∗ owing c (owed c l) ∗ held c oM (mix xs ds c (insert 1 S) X)) -∗ Kt w)
        -∗ runs c (k0_part27 xM (Memref.isWhole_whole _) dM (Memref.isWhole_whole _) oM (Memref.isWhole_whole _) bM (Memref.isWhole_whole _)
          sM (Memref.isWhole_whole _) cM (Memref.isWhole_whole _) cc0_scratch3 cc0_scratch4 v25 (mine xs ds c 1 3)) Kt) := by
  rw [k0_part27_eq_skeleton]; unfold k0_part27_skel
  simp only [Prog.lift, Prog.bind_op, Prog.bind_ret, Prog.pure_eq_ret]
  iintro ⟨#HK, Hg, Hf', HO, Ho⟩ Hk
  iapply (wait_past xs ds K c l (1, 2) hl) $$ [Hg HO]
  · isplitr; · iexact HK
    isplitl [Hg] <;> iassumption
  iintro ⟨Hp, Hc, HO⟩
  unfold came
  iapply (wp_load_com c (1, 2) _) $$ [Hc]; · iexact Hc
  iintro Hc
  iapply (wp_load_held c oM _ _) $$ [Ho]; · iexact Ho
  iintro Ho
  iapply (wp_store_strip xs ds c S 1 X rfl _ (last_eq xs ds c 1)) $$ [Ho]; · iexact Ho
  iintro Ho
  iapply (wait_gone xs ds K c l (3, 2) rfl) $$ [Hf' HO]
  · isplitr; · iexact HK
    isplitl [Hf'] <;> iassumption
  iintro ⟨Hg, HO⟩
  iapply (runs_ret c)
  iapply Hk
  isplitl [Hp]; · iexact Hp
  isplitl [Hc]; · iexact Hc
  isplitl [Hg]; · iexact Hg
  isplitl [HO] <;> iassumption

/-- The first step reads the device's own number. -/
theorem part1 {Kt : (Σ' (_ : Dev nD) (_ : BitVec 32) (_ : BitVec 32) (_ : BitVec 32) (_ : BitVec 32) (_ : BitVec 32) (_ : BitVec 1) (_ : BitVec 1), BitVec 1) → sProp 𝕄} :
    iprop(∀ v2 v14 v25 v29 v30 v31 v32 v33, Kt ⟨c, v2, v14, v25, v29, v30, v31, v32, v33⟩)
      ⊢ runs c (k0_part1 (F := F) xM (Memref.isWhole_whole _) dM (Memref.isWhole_whole _) oM (Memref.isWhole_whole _) bM (Memref.isWhole_whole _)
          sM (Memref.isWhole_whole _) cM (Memref.isWhole_whole _) cc0_scratch3 cc0_scratch4) Kt := by
  rw [k0_part1_eq_skeleton]; unfold k0_part1_skel
  simp only [Prog.lift, Prog.bind_op, Prog.bind_ret, Prog.pure_eq_ret]
  unfold runs
  simp only [wp_deviceId]
  iintro Hk
  iapply (runs_ret c)
  iapply Hk

end Steps

end Cert.RingProof

end
-- ==== Proof.Body.lean ====
/-
# The whole body

The steps in order, and the step after the last: from what the barrier and the launch give to the device's block of the result.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body

variable (xs : Dev nD → Vec F S1024x1024 .f32) (ds : Dev nD → Vec F S1024x4096 .f32) (K : Dev nD × Key → ℕ) (c : Dev nD)

/-- The copies after the first, in their order. -/
theorem ready_list : (bigSep (Finset.univ.erase ((0, 0) : Lane)) fun j => (ready j c : sProp 𝕄)) ⊢
    iprop(ready (F := F) (2, 0) c ∗ ready (F := F) (1, 0) c ∗ ready (F := F) (3, 0) c ∗ ready (F := F) (0, 1) c ∗ ready (F := F) (2, 1) c ∗ ready (F := F) (1, 1) c
      ∗ ready (F := F) (3, 1) c ∗ ready (F := F) (0, 2) c ∗ ready (F := F) (2, 2) c ∗ ready (F := F) (1, 2) c ∗ ready (F := F) (3, 2) c) := by
  rw [bigSep_eq_bigSepL_of_eq order.tail (by decide) (by decide)]
  exact Entails.refl _

/-- A chain over the copies in their order is a conjunction over all of them. -/
theorem order_all (Φ : Lane → sProp 𝕄) :
    iprop(Φ (0, 0) ∗ Φ (2, 0) ∗ Φ (1, 0) ∗ Φ (3, 0) ∗ Φ (0, 1) ∗ Φ (2, 1) ∗ Φ (1, 1) ∗ Φ (3, 1) ∗ Φ (0, 2) ∗ Φ (2, 2) ∗ Φ (1, 2) ∗ Φ (3, 2)) ⊢ bigSep Finset.univ Φ := by
  rw [bigSep_eq_bigSepL_of_eq order (by decide) (by decide) Φ]
  exact Entails.refl _

/-- The last receive and the last strip of the result. -/
theorem tail_step (S : Finset (Fin 4)) (X : Vec F S256x4096 .f32) (hS : insert 3 S = Finset.univ) {Kt : PUnit → sProp 𝕄}
    {sp' : Space} {s' : Shape} {e' : EltTy} {src : Memref sig .tc sp' s' e'} {h1 : src.view.WordExact} {h2 : (comS (3, 2)).view.WordExact}
    {h3 : (cM : Memref sig .tc .vmem S4x3x256x1024 .bf16).view.LoadsAt (comR (3, 2)).toLoadRect}
    {h4 : (oM : Memref sig .tc .vmem S256x4096 .f32).view.LoadsAt (Rect.unit (s := S256x4096) ![0, 3072] S256x1024.size inb_S256x4096_S256x1024_0_3072).toLoadRect}
    {h5 : ((oM : Memref sig .tc .vmem S256x4096 .f32).access (Rect.unit (s := S256x4096) ![0, 3072] S256x1024.size inb_S256x4096_S256x1024_0_3072)).Stores Finset.univ} :
    iprop(known xs ds K ∗ gone xs ds c (3, 2) ∗ owing c (owed c []) ∗ held c oM (mix xs ds c S X))
      ⊢ iprop(((past xs ds c (3, 2) ∗ came xs ds c (3, 2) ∗ owing c (owed c []) ∗ held c oM (outAt xs ds c)) -∗ Kt ⟨⟩)
        -∗ runs c (.op (.waitDma2 (recvS (3, 2)) src (comS (3, 2)) h1 h2) fun _ =>
          .op (.load cM (comR (3, 2)).toLoadRect h3) fun v758 =>
          .op (.load oM (Rect.unit (s := S256x4096) ![0, 3072] S256x1024.size inb_S256x4096_S256x1024_0_3072).toLoadRect h4) fun _ =>
          .op (.store oM (Rect.unit (s := S256x4096) ![0, 3072] S256x1024.size inb_S256x4096_S256x1024_0_3072) (k0_pay1 (mine xs ds c 3 3) v758) Finset.univ h5 (.inl rfl)) fun _ =>
          .ret ⟨⟩) Kt) := by
  iintro ⟨#HK, Hg, HO, Ho⟩ Hk
  iapply (wait_past xs ds K c [] (3, 2) (by decide)) $$ [Hg HO]
  · isplitr; · iexact HK
    isplitl [Hg] <;> iassumption
  iintro ⟨Hp, Hc, HO⟩
  unfold came
  iapply (wp_load_com c (3, 2) _) $$ [Hc]; · iexact Hc
  iintro Hc
  iapply (wp_load_held c oM _ _) $$ [Ho]; · iexact Ho
  iintro Ho
  iapply (wp_store_strip xs ds c S 3 X rfl _ (last_eq xs ds c 3)) $$ [Ho]; · iexact Ho
  iintro Ho
  iapply (runs_ret c)
  rw [hS, mix_univ]
  iapply Hk
  isplitl [Hp]; · iexact Hp
  isplitl [Hc]; · iexact Hc
  isplitl [HO] <;> iassumption

/-- What the body takes besides its buffers: the places, the rights and the credit of the barrier and of every copy, and the device's own landing slots. -/
def given : sProp 𝕄 :=
  iprop(atPos ER (kcell (c, none)) 0 ∅ 0 ∗ cred (tallyAt (kcell (c, none)) () 2)
    ∗ dutyTok ER (kcell (nb false c, none)) 0 (!false) ∗ dutyTok ER (kcell (nb true c, none)) 0 (!true)
    ∗ (bigSep (lanes (!false)) fun j => slotAny (F := F) c (comS j)) ∗ (bigSep (lanes (!true)) fun j => slotAny (F := F) c (comS j))
    ∗ (bigSep Finset.univ fun j : Lane => iprop(rights (F := F) j c ∗ places j c)))

/-- What the body leaves of the copies: every copy done with, and in the landing slots of the last hop what came. -/
def spent : sProp 𝕄 :=
  iprop((bigSep Finset.univ fun j : Lane => past xs ds c j) ∗ came xs ds c (0, 2) ∗ came xs ds c (1, 2) ∗ came xs ds c (2, 2) ∗ came xs ds c (3, 2)
    ∗ semVal (kcell (c, none)) 0)

/-- **The body on one device**: it leaves the sum over the ring in the result and owes nothing more. -/
theorem run_body (X : Vec F S256x4096 .f32) (B : Vec F S1024x4096 .bf16) {Kt : PUnit → sProp 𝕄} :
    iprop(known xs ds K ∗ given (F := F) c ∗ held c xM (xs c) ∗ held c dM (ds c) ∗ held c oM X ∗ held c bM B
        ∗ slotAny (F := F) c (stgS 0) ∗ slotAny (F := F) c (stgS 1) ∗ slotAny (F := F) c (stgS 2) ∗ slotAny (F := F) c (stgS 3) ∗ owing c (O₀ c))
      ⊢ iprop(((spent xs ds c ∗ held c xM (xs c) ∗ held c dM (ds c) ∗ held c oM (outAt xs ds c) ∗ held c bM (half (ds c)) ∗ owing c 0) -∗ Kt ⟨⟩)
        -∗ runs c (cc0_body xM (Memref.isWhole_whole _) dM (Memref.isWhole_whole _) oM (Memref.isWhole_whole _) bM (Memref.isWhole_whole _)
          sM (Memref.isWhole_whole _) cM (Memref.isWhole_whole _) cc0_scratch3 cc0_scratch4) Kt) := by
  simp only [cc0_body_eq_skeleton]; unfold cc0_body_skel
  simp only [Prog.lift, Prog.bind_op, Prog.bind_ret, Prog.pure_eq_ret]
  unfold runs given
  simp only [wp_bind]
  rw [← mix_empty xs ds c X]
  iintro ⟨#HK, ⟨Hat, Hcr, Htl, Htr, HlL, HlR, Hrp⟩, Hx, Hd, Ho, Hb, S0, S1, S2, S3, HO⟩ Hk
  iapply (part1 c)
  iintro %v2 %v14 %v25 %v29 %v30 %v31 %v32 %v33
  iapply (part2 xs ds c _ _ _ _ _ _) $$ [Hx Hd S0]
  · isplitl [Hx]; · iexact Hx
    isplitl [Hd]; · iexact Hd
    iexact S0
  iintro ⟨Hx, Hd, F0⟩
  iapply (part3 xs ds K c _ _) $$ [S2 F0 Hat Hcr Htl Htr HlL HlR Hrp HO]
  · isplitr; · iexact HK
    isplitl [S2]; · iexact S2
    isplitl [F0]; · iexact F0
    isplitl [Hat]; · iexact Hat
    isplitl [Hcr]; · iexact Hcr
    isplitl [Htl]; · iexact Htl
    isplitl [Htr]; · iexact Htr
    isplitl [HlL]; · iexact HlL
    isplitl [HlR]; · iexact HlR
    isplitl [Hrp]; · iexact Hrp
    iexact HO
  iintro ⟨F2, W00, HR, Hz, HO⟩
  ihave HR := (ready_list (F := F) c) $$ [HR]; · iexact HR
  icases HR with ⟨R20, R10, R30, R01, R21, R11, R31, R02, R22, R12, R32⟩
  iapply (part4 xs ds K c (order.drop 2) _) $$ [R20 F2 HO Hx Hd S1]
  · isplitr; · iexact HK
    isplitl [R20]; · iexact R20
    isplitl [F2]; · iexact F2
    isplitl [HO]; · iexact HO
    isplitl [Hx]; · iexact Hx
    isplitl [Hd]; · iexact Hd
    iexact S1
  iintro ⟨W20, HO, Hx, Hd, F1⟩
  iapply (part5 xs ds K c (order.drop 3) _ _) $$ [R10 F1 HO Hx Hd S3]
  · isplitr; · iexact HK
    isplitl [R10]; · iexact R10
    isplitl [F1]; · iexact F1
    isplitl [HO]; · iexact HO
    isplitl [Hx]; · iexact Hx
    isplitl [Hd]; · iexact Hd
    iexact S3
  iintro ⟨W10, HO, Hx, Hd, F3⟩
  iapply (part6 xs ds K c (order.drop 4) _ _ B) $$ [R30 F3 HO Hd Hb]
  · isplitr; · iexact HK
    isplitl [R30]; · iexact R30
    isplitl [F3]; · iexact F3
    isplitl [HO]; · iexact HO
    isplitl [Hd]; · iexact Hd
    iexact Hb
  iintro %w191 ⟨W30, HO, Hd, Hb⟩
  iapply (part7 xs ds c _ _ B) $$ [Hx Hd Hb]
  · isplitl [Hx]; · iexact Hx
    isplitl [Hd]; · iexact Hd
    iexact Hb
  iintro ⟨Hx, Hd, Hb⟩
  iapply (part8 xs ds K c (order.drop 4) (by decide) _) $$ [W00 HO]
  · isplitr; · iexact HK
    isplitl [W00]; · iexact W00
    iexact HO
  iintro ⟨P00, F0, HO⟩
  iapply (part9 xs ds K c (order.drop 5) (by decide) _ _) $$ [R01 F0 W20 HO]
  · isplitr; · iexact HK
    isplitl [R01]; · iexact R01
    isplitl [F0]; · iexact F0
    isplitl [W20]; · iexact W20
    iexact HO
  iintro ⟨W01, P20, C2, HO⟩
  iapply (part10 xs ds K c (order.drop 6) _ _) $$ [R21 C2 HO]
  · isplitr; · iexact HK
    isplitl [R21]; · iexact R21
    isplitl [C2]; · iexact C2
    iexact HO
  iintro %a10 %b10 %e10 ⟨W21, HO⟩
  iapply (part11 xs ds c _ _ _ _) $$ [Hx Hb]
  · isplitl [Hx]; · iexact Hx
    iexact Hb
  iintro ⟨Hx, Hb⟩
  iapply (part12 xs ds K c (order.drop 6) (by decide) _) $$ [W10 HO]
  · isplitr; · iexact HK
    isplitl [W10]; · iexact W10
    iexact HO
  iintro ⟨P10, F1, HO⟩
  iapply (part13 xs ds K c (order.drop 7) (by decide) _) $$ [R11 F1 W30 HO]
  · isplitr; · iexact HK
    isplitl [R11]; · iexact R11
    isplitl [F1]; · iexact F1
    isplitl [W30]; · iexact W30
    iexact HO
  iintro ⟨W11, P30, C3, HO⟩
  iapply (part14 xs ds K c (order.drop 8) _ _) $$ [R31 C3 HO Hb]
  · isplitr; · iexact HK
    isplitl [R31]; · iexact R31
    isplitl [C3]; · iexact C3
    isplitl [HO]; · iexact HO
    iexact Hb
  iintro %w14 %w14' ⟨W31, HO, Hb⟩
  iapply (part15 xs ds c _ _ _) $$ [Hx Hb]
  · isplitl [Hx]; · iexact Hx
    iexact Hb
  iintro %a %b %d %e %f ⟨Hx, Hb⟩
  iapply (part16 xs ds c _ _ _ _ _ _) $$ [Hx Hb]
  · isplitl [Hx]; · iexact Hx
    iexact Hb
  iintro ⟨Hx, Hb⟩
  iapply (part17 xs ds K c (order.drop 8) (by decide) _) $$ [W01 HO]
  · isplitr; · iexact HK
    isplitl [W01]; · iexact W01
    iexact HO
  iintro %w17 ⟨P01, F0, HO⟩
  iapply (part18 xs ds K c (order.drop 9) (by decide) _ _) $$ [R02 F0 W21 HO]
  · isplitr; · iexact HK
    isplitl [R02]; · iexact R02
    isplitl [F0]; · iexact F0
    isplitl [W21]; · iexact W21
    iexact HO
  iintro ⟨W02, P21, C2, HO⟩
  iapply (part19 xs ds K c (order.drop 10) _) $$ [R22 C2 W11 HO]
  · isplitr; · iexact HK
    isplitl [R22]; · iexact R22
    isplitl [C2]; · iexact C2
    isplitl [W11]; · iexact W11
    iexact HO
  iintro ⟨W22, G1, HO⟩
  iapply (part20 xs ds K c (order.drop 10) (by decide) _) $$ [G1 HO]
  · isplitr; · iexact HK
    isplitl [G1]; · iexact G1
    iexact HO
  iintro ⟨P11, F1, HO⟩
  iapply (part21 xs ds K c (order.drop 11) (by decide) _) $$ [R12 F1 W31 HO]
  · isplitr; · iexact HK
    isplitl [R12]; · iexact R12
    isplitl [F1]; · iexact F1
    isplitl [W31]; · iexact W31
    iexact HO
  iintro ⟨W12, P31, C3, HO⟩
  iapply (part22 xs ds K c (order.drop 12) _ _) $$ [R32 C3 HO Hx Hb]
  · isplitr; · iexact HK
    isplitl [R32]; · iexact R32
    isplitl [C3]; · iexact C3
    isplitl [HO]; · iexact HO
    isplitl [Hx]; · iexact Hx
    iexact Hb
  iintro ⟨W32, HO, Hx, Hb⟩
  iapply (part23 xs ds c _) $$ [Hx Hb]
  · isplitl [Hx]; · iexact Hx
    iexact Hb
  iintro %w23 ⟨Hx, Hb⟩
  iapply (part24 xs ds c _ _) $$ [Hx Hb]
  · isplitl [Hx]; · iexact Hx
    iexact Hb
  iintro ⟨Hx, Hb⟩
  iapply (part25 xs ds K c (order.drop 12) (by decide) _ X) $$ [W02 HO Ho]
  · isplitr; · iexact HK
    isplitl [W02]; · iexact W02
    isplitl [HO]; · iexact HO
    iexact Ho
  iintro ⟨P02, C0, HO, Ho⟩
  iapply (part26 xs ds K c (order.drop 12) (by decide) _ X _) $$ [W22 W12 HO Ho]
  · isplitr; · iexact HK
    isplitl [W22]; · iexact W22
    isplitl [W12]; · iexact W12
    isplitl [HO]; · iexact HO
    iexact Ho
  iintro ⟨P22, C2, G1, HO, Ho⟩
  iapply (part27 xs ds K c (order.drop 12) (by decide) _ X _) $$ [G1 W32 HO Ho]
  · isplitr; · iexact HK
    isplitl [G1]; · iexact G1
    isplitl [W32]; · iexact W32
    isplitl [HO]; · iexact HO
    iexact Ho
  iintro %w27 ⟨P12, C1, G3, HO, Ho⟩
  iapply (tail_step xs ds K c (insert 1 (insert 2 (insert 0 ∅))) X (by decide)) $$ [G3 HO Ho]
  · isplitr; · iexact HK
    isplitl [G3]; · iexact G3
    isplitl [HO]; · iexact HO
    iexact Ho
  iintro ⟨P32, C3, HO, Ho⟩
  iapply Hk
  unfold spent
  isplitr [Hx Hd Ho Hb HO]
  · isplitl [P00 P20 P10 P30 P01 P21 P11 P31 P02 P22 P12 P32]
    · iapply (order_all fun j => past xs ds c j)
      isplitl [P00]; · iexact P00
      isplitl [P20]; · iexact P20
      isplitl [P10]; · iexact P10
      isplitl [P30]; · iexact P30
      isplitl [P01]; · iexact P01
      isplitl [P21]; · iexact P21
      isplitl [P11]; · iexact P11
      isplitl [P31]; · iexact P31
      isplitl [P02]; · iexact P02
      isplitl [P22]; · iexact P22
      isplitl [P12] <;> iassumption
    isplitl [C0]; · iexact C0
    isplitl [C1]; · iexact C1
    isplitl [C2]; · iexact C2
    isplitl [C3] <;> iassumption
  isplitl [Hx]; · iexact Hx
  isplitl [Hd]; · iexact Hd
  isplitl [Ho]; · iexact Ho
  isplitl [Hb]; · iexact Hb
  iexact HO

end Body

end Cert.RingProof

end
-- ==== Proof.Deal.lean ====
/-
# The launch's ghost state and the buffers

What the launch deals every device: the places in its own cells, the rights to pay the cells it pays, and the credit of what comes in. The scratch buffers are cut into the slots of the copies and
put together again.
-/
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Deal

variable (xs : Dev nD → Vec F S1024x1024 .f32) (ds : Dev nD → Vec F S1024x4096 .f32)

/-! ## Slots and their buffers -/

/-- Elements held at some contents are a slot held at some contents, -/
theorem slot_of_pts (c : Dev nD) (M : Memref sig .tc .vmem S256x1024 .bf16) :
    (iprop(∃ f, M.view.loc (c : Thread nD τ) ↦[M.view.set]{fullShare} f) : sProp 𝕄) ⊢ slotAny (F := F) c M := by
  iintro ⟨%f, H⟩
  iexists (M.view.read (Elt F) f)
  unfold slot owns
  iexists f
  isplitr; · ipureintro; rfl
  iexact H
/-- and back. -/
theorem pts_of_slot (c : Dev nD) (M : Memref sig .tc .vmem S256x1024 .bf16) (v : Vec F S256x1024 .bf16) :
    slot c M v ⊢ (iprop(∃ f, M.view.loc (c : Thread nD τ) ↦[M.view.set]{fullShare} f) : sProp 𝕄) := by
  unfold slot owns
  iintro ⟨%f, -, H⟩
  iexists f; iexact H

/-- Distinct staging slots do not overlap, -/
theorem stg_disj (r r' : Fin 4) (h : r ≠ r') : Disjoint (stgS r).view.set (stgS r').view.set := by
  have e : ∀ r : Fin 4, (stgS r).view.set = (stgR r).set := fun r => (View.set_reshape _ _).trans (View.set_slice_whole _ _)
  rw [e, e]
  have : r.val ≠ r'.val := fun e => h (Fin.ext e)
  exact Rect.unit_disjoint 0 (show r.val + 1 ≤ r'.val ∨ r'.val + 1 ≤ r.val by omega)
/-- nor distinct landing slots. -/
theorem com_disj (j j' : Lane) (h : j ≠ j') : Disjoint (comS j).view.set (comS j').view.set := by
  have e : ∀ j : Lane, (comS j).view.set = (comR j).set := fun j => (View.set_reshape _ _).trans (View.set_slice_whole _ _)
  rw [e, e]
  by_cases h1 : j.1 = j'.1
  · have : j.2.val ≠ j'.2.val := fun e => h (Prod.ext h1 (Fin.ext e))
    exact Rect.unit_disjoint 1 (show j.2.val + 1 ≤ j'.2.val ∨ j'.2.val + 1 ≤ j.2.val by omega)
  · have : j.1.val ≠ j'.1.val := fun e => h1 (Fin.ext e)
    exact Rect.unit_disjoint 0 (show j.1.val + 1 ≤ j'.1.val ∨ j'.1.val + 1 ≤ j.1.val by omega)

/-- What the slots leave of the staging scratch and of the landing scratch. -/
def stgRest (c : Dev nD) : sProp 𝕄 :=
  iprop(∃ f : Buf (Elt F) ((c : Thread nD τ).loc cc0_scratch1), ((c : Thread nD τ).loc cc0_scratch1) ↦[Ring.restOf fun r => (stgS r).view.set]{fullShare} f)
@[inherit_doc stgRest] def comRest (c : Dev nD) : sProp 𝕄 :=
  iprop(∃ f : Buf (Elt F) ((c : Thread nD τ).loc cc0_scratch2), ((c : Thread nD τ).loc cc0_scratch2) ↦[Ring.restOf fun j => (comS j).view.set]{fullShare} f)

/-- The same, said of the staging scratch, -/
theorem stg_slot (c : Dev nD) (r : Fin 4) : (iprop(∃ f : Buf (Elt F) ((c : Thread nD τ).loc cc0_scratch1), ((c : Thread nD τ).loc cc0_scratch1) ↦[(stgS r).view.set]{fullShare} f) : sProp 𝕄)
    ⊢ slotAny (F := F) c (stgS r) := slot_of_pts c (stgS r)
@[inherit_doc stg_slot] theorem slot_stg (c : Dev nD) (r : Fin 4) : slotAny (F := F) c (stgS r)
    ⊢ (iprop(∃ f : Buf (Elt F) ((c : Thread nD τ).loc cc0_scratch1), ((c : Thread nD τ).loc cc0_scratch1) ↦[(stgS r).view.set]{fullShare} f) : sProp 𝕄) :=
  exists_elim fun v => pts_of_slot c (stgS r) v
/-- and of the landing scratch. -/
theorem com_slot (c : Dev nD) (j : Lane) : (iprop(∃ f : Buf (Elt F) ((c : Thread nD τ).loc cc0_scratch2), ((c : Thread nD τ).loc cc0_scratch2) ↦[(comS j).view.set]{fullShare} f) : sProp 𝕄)
    ⊢ slotAny (F := F) c (comS j) := slot_of_pts c (comS j)
@[inherit_doc com_slot] theorem slot_com (c : Dev nD) (j : Lane) : slotAny (F := F) c (comS j)
    ⊢ (iprop(∃ f : Buf (Elt F) ((c : Thread nD τ).loc cc0_scratch2), ((c : Thread nD τ).loc cc0_scratch2) ↦[(comS j).view.set]{fullShare} f) : sProp 𝕄) :=
  exists_elim fun v => pts_of_slot c (comS j) v

/-- The staging scratch is its slots and the rest, -/
theorem stg_cut (c : Dev nD) : (iprop(∃ f : Buf (Elt F) ((c : Thread nD τ).loc cc0_scratch1), ((c : Thread nD τ).loc cc0_scratch1) ↦{fullShare} f) : sProp 𝕄)
    ⊢ iprop((bigSep Finset.univ fun r => slotAny (F := F) c (stgS r)) ∗ stgRest (F := F) c) :=
  (Ring.fam_split_ex (ℓ := (c : Thread nD τ).loc cc0_scratch1) (fun r => (stgS r).view.set) stg_disj).trans (sep_mono_left (bigSep_mono fun r _ => stg_slot c r))
/-- and out of these it is put together again; -/
theorem stg_join (c : Dev nD) : iprop((bigSep Finset.univ fun r => slotAny (F := F) c (stgS r)) ∗ stgRest (F := F) c)
    ⊢ (iprop(∃ f : Buf (Elt F) ((c : Thread nD τ).loc cc0_scratch1), ((c : Thread nD τ).loc cc0_scratch1) ↦{fullShare} f) : sProp 𝕄) := by
  unfold stgRest
  iintro ⟨H, ⟨%f, Hr⟩⟩
  iapply (Ring.fam_join (fun r => (stgS r).view.set) stg_disj f)
  isplitl [H]
  · iapply (show (bigSep Finset.univ fun r => slotAny (F := F) c (stgS r)) ⊢ _ from bigSep_mono fun r _ => slot_stg c r)
    iexact H
  iexists f; iexact Hr
/-- and so is the landing scratch. -/
theorem com_cut (c : Dev nD) : (iprop(∃ f : Buf (Elt F) ((c : Thread nD τ).loc cc0_scratch2), ((c : Thread nD τ).loc cc0_scratch2) ↦{fullShare} f) : sProp 𝕄)
    ⊢ iprop((bigSep Finset.univ fun j => slotAny (F := F) c (comS j)) ∗ comRest (F := F) c) :=
  (Ring.fam_split_ex (ℓ := (c : Thread nD τ).loc cc0_scratch2) (fun j => (comS j).view.set) com_disj).trans (sep_mono_left (bigSep_mono fun j _ => com_slot c j))
/-- and put together again. -/
theorem com_join (c : Dev nD) : iprop((bigSep Finset.univ fun j => slotAny (F := F) c (comS j)) ∗ comRest (F := F) c)
    ⊢ (iprop(∃ f : Buf (Elt F) ((c : Thread nD τ).loc cc0_scratch2), ((c : Thread nD τ).loc cc0_scratch2) ↦{fullShare} f) : sProp 𝕄) := by
  unfold comRest
  iintro ⟨H, ⟨%f, Hr⟩⟩
  iapply (Ring.fam_join (fun j => (comS j).view.set) com_disj f)
  isplitl [H]
  · iapply (show (bigSep Finset.univ fun j => slotAny (F := F) c (comS j)) ⊢ _ from bigSep_mono fun j _ => slot_com c j)
    iexact H
  iexists f; iexact Hr

/-- The strips one by one. -/
theorem bigSep_strips (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- The hops one by one. -/
theorem bigSep_hops (Φ : Fin 3 → sProp 𝕄) : bigSep Finset.univ Φ = iprop(Φ 0 ∗ Φ 1 ∗ Φ 2) :=
  bigSep_univ_eq_bigSepL [0, 1, 2] (by decide) (by decide) Φ
/-- The two sides one by one. -/
theorem bigSep_sides (Φ : Bool → sProp 𝕄) : bigSep Finset.univ Φ = iprop(Φ false ∗ Φ true) :=
  bigSep_univ_eq_bigSepL [false, true] (by decide) (by decide) Φ
/-- The copies strip by strip. -/
theorem bigSep_lanes (Φ : Lane → sProp 𝕄) : bigSep Finset.univ Φ = bigSep Finset.univ fun r => iprop(Φ (r, 0) ∗ Φ (r, 1) ∗ Φ (r, 2)) := by
  rw [bigSep_univ_prod]; exact bigSep_congr fun r _ => bigSep_hops _
/-- The copies by the way they go. -/
theorem bigSep_ways (Φ : Lane → sProp 𝕄) : bigSep Finset.univ Φ = iprop(bigSep (lanes false) Φ ∗ bigSep (lanes true) Φ) := by
  rw [bigSep_filter_split Finset.univ (fun j : Lane => dir j.1 = false)]
  rw [show (Finset.univ.filter fun j : Lane => ¬ dir j.1 = false) = lanes true from Finset.filter_congr fun j _ => by cases dir j.1 <;> simp]
  rfl
/-- A device's cells: the barrier and the copies'. -/
theorem bigSep_keys (Φ : Key → sProp 𝕄) : bigSep Finset.univ Φ = iprop(Φ none ∗ bigSep Finset.univ fun k => Φ (some k)) := by
  rw [show (Finset.univ : Finset Key) = insert none (Finset.univ.map Function.Embedding.some) from by ext k; cases k <;> simp,
    bigSep_insert (by simp), bigSep_map]
  rfl
/-- The copies' cells: the send cells and the receive cells. -/
theorem bigSep_cells (Φ : Bool × Lane → sProp 𝕄) :
    bigSep Finset.univ Φ = iprop((bigSep Finset.univ fun j => Φ (false, j)) ∗ bigSep Finset.univ fun j => Φ (true, j)) := by
  rw [bigSep_univ_prod, bigSep_sides]

/-- After the body, all slots are there again: the source slots of the copies and the landing slots of the last hop are the staging slots and the landing slots. -/
theorem slots_back (c : Dev nD) :
    iprop((bigSep Finset.univ fun j => slotAny (F := F) c (srcS j)) ∗ bigSep Finset.univ fun r : Fin 4 => slotAny (F := F) c (comS (r, 2)))
      ⊢ iprop((bigSep Finset.univ fun r => slotAny (F := F) c (stgS r)) ∗ bigSep Finset.univ fun j => slotAny (F := F) c (comS j)) := by
  rw [bigSep_lanes, bigSep_lanes, ← bigSep_sep', ← bigSep_sep']
  refine bigSep_mono fun r _ => ?_
  change (iprop((slotAny (F := F) c (stgS r) ∗ slotAny c (comS (r, 0)) ∗ slotAny c (comS (r, 1))) ∗ slotAny c (comS (r, 2))) : sProp 𝕄)
    ⊢ iprop(slotAny c (stgS r) ∗ slotAny c (comS (r, 0)) ∗ slotAny c (comS (r, 1)) ∗ slotAny c (comS (r, 2)))
  iintro ⟨⟨H0, H1, H2⟩, H3⟩
  isplitl [H0]; · iexact H0
  isplitl [H1]; · iexact H1
  isplitl [H2] <;> iassumption

/-! ## Cells and tokens -/

/-- The kernel's own semaphores: the send and the receive semaphore of every copy. -/
abbrev osem (k : Bool × Lane) : SemLoc sig := csem (some k)

/-- They are scoped, differ from each other, and none is a semaphore of the pipeline's. -/
theorem ownSemFacts : Pipeline.OwnSemFacts cfg0.spec osem where
  isScoped := by decide +kernel
  inj := fun a b h => Option.some.inj (csem_injective h)
  disj := by decide +kernel

/-- All cells of the ring: every device's barrier, send and receive semaphores. -/
def ringCells : Finset (GSem nD τ sig) := Finset.univ.map ⟨kcell, kcell_injective⟩

/-- The duty tokens of a device's own cells: two for its barrier, one for every other. -/
abbrev tokOf (cj : Dev nD × (Bool ⊕ (Bool × Lane))) : GSem nD τ sig × ℕ × Bool := match cj.2 with
  | .inl d => (kcell (cj.1, none), 0, d)
  | .inr k => (kcell (cj.1, some k), 0, false)
/-- Different duties have different tokens. -/
theorem tokOf_injective : Function.Injective tokOf := by
  rintro ⟨c, j⟩ ⟨c', j'⟩ h
  have h1 := congrArg Prod.fst h
  have h2 : (tokOf (c, j)).2.2 = (tokOf (c', j')).2.2 := congrArg (fun x => x.2.2) h
  rcases j with d | k <;> rcases j' with d' | k' <;> have e := kcell_injective h1 <;> have e1 := congrArg Prod.fst e <;> have e2 := congrArg Prod.snd e <;> dsimp only at e1 e2 h2
  · subst e1; subst h2; rfl
  · cases e2
  · cases e2
  · subst e1; cases e2; rfl
/-- The duty tokens of all devices' cells. -/
def ringToks : Finset (GSem nD τ sig × ℕ × Bool) := Finset.univ.map ⟨tokOf, tokOf_injective⟩

/-- The ghost state at the launch: the pipeline's cells, and the ring's. -/
def u₀ : UU := (initOf (Pipeline.cells cfgs cellOf_inj) (Pipeline.launchToks cfgs cellOf_inj), initOf ringCells ringToks)

/-- The duty tokens of device `c`'s own cells. -/
def toks (c : Dev nD) : sProp 𝕄 :=
  iprop((dutyTok ER (kcell (c, none)) 0 false ∗ dutyTok ER (kcell (c, none)) 0 true)
    ∗ (bigSep Finset.univ fun j => dutyTok ER (kcell (c, some (false, j))) 0 false) ∗ bigSep Finset.univ fun j => dutyTok ER (kcell (c, some (true, j))) 0 false)

/-- What the launch deals device `c`. -/
def G (c : Dev nD) : sProp 𝕄 :=
  iprop((bigSep Finset.univ fun k : Key => roundState ER (sched xs ds) (kcell (c, k)) 0)
    ∗ (bigSep Finset.univ fun k : Key => iprop(atPos ER (kcell (c, k)) 0 ∅ 0 ∗ reached ER (kcell (c, k)) 0)) ∗ toks c)

/-- The ring's ghost state deals every device its share. -/
theorem fund_ring : BI.own (ER (initOf ringCells ringToks)) ⊢ (|==> bigSep Finset.univ (G xs ds) : sProp 𝕄) := by
  have hX (Φ : GSem nD τ sig → sProp 𝕄) : bigSep ringCells Φ = bigSep Finset.univ fun c : Dev nD => bigSep Finset.univ fun k : Key => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_sides, bigSep_cells]; rfl
  iintro HX
  imod (Rounds.fund ER (sched xs ds) ringCells ringToks) $$ HX with ⟨Hst, Hr, Hat, Htok⟩
  imodintro
  ihave Hst' := (Entails.of_eq (hX fun g => roundState ER (sched xs ds) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (kcell (c, none)) 0 := by
  unfold unscopedSems0; rw [bigSep_eq_bigSepL_of_eq [SemLoc.reg barS] (by decide) (by decide)]; rfl

/-- A device's semaphores at zero are the counters of its cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (kcell (c, k)) 0 : sProp 𝕄) := by
  rw [unscopedSems0_eq, bigSep_keys]
  unfold Pipeline.ownSems0
  iintro ⟨H, HB⟩
  isplitl [HB] <;> iassumption

/-- Device `c` puts the counters of its cells under their invariants. -/
theorem core_alloc (c : Dev nD) :
    iprop(Pipeline.ownSems0 (Ix := Unit) (Name := ℕ) (U := UU) (Lvl := ℕ) (Val := Elt F) (τ := τ) osem c ∗ unscopedSems0 c ∗ G xs ds c)
      ⊢ |={Set.univ}=> iprop((bigSep Finset.univ fun k => iprop(∃ κ : ℕ, cellInv ER (sched xs ds) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Key => semVal (kcell (c, k)) 0) ∗ bigSep Finset.univ fun k : Key => roundState ER (sched xs ds) (kcell (c, k)) 0)
      ⊢ (|={Set.univ}=> bigSep Finset.univ fun k => iprop(∃ κ : ℕ, cellInv ER (sched xs ds) κ (kcell (c, k))) : sProp 𝕄) from by
        rw [← bigSep_sep']
        exact (bigSep_mono fun k _ => (Rounds.body_intro ER (sched xs ds) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants of all cells, and that all have begun their round. -/
def records (K : Dev nD × Key → ℕ) : sProp 𝕄 :=
  iprop((bigSep Finset.univ fun ck : Dev nD × Key => cellInv ER (sched xs ds) (K ck) (kcell ck))
    ∗ bigSep Finset.univ fun ck : Dev nD × Key => reached ER (kcell ck) 0)

/-- The records may be shared by all devices. -/
instance records_persistent (K : Dev nD × Key → ℕ) : BI.Persistent (records xs ds K) := by unfold records; infer_instance

/-- The tokens of the duties that device `c` pays: the two neighbours' barriers, its own send cells, the receive cells its copies arrive at. -/
def payToks (c : Dev nD) : sProp 𝕄 :=
  iprop((dutyTok ER (kcell (nb true c, none)) 0 false ∗ dutyTok ER (kcell (nb false c, none)) 0 true)
    ∗ (bigSep Finset.univ fun j => dutyTok ER (kcell (c, some (false, j))) 0 false) ∗ bigSep Finset.univ fun j => dutyTok ER (recvTo j c) 0 false)

/-- What stays with device `c`: its places and those tokens. -/
def linear (c : Dev nD) : sProp 𝕄 := iprop((bigSep Finset.univ fun k : Key => atPos ER (kcell (c, k)) 0 ∅ 0) ∗ payToks c)

/-- What the global step makes of what was dealt. -/
def G' (c : Dev nD) : sProp 𝕄 := iprop(∃ K, records xs ds K ∗ linear c)

/-- The tokens go to the devices that pay: a barrier's to the two neighbours, a receive cell's to the device its copy comes from. -/
theorem toks_around : (bigSep Finset.univ fun c : Dev nD => (toks c : sProp 𝕄)) ⊢ bigSep Finset.univ fun c : Dev nD => payToks c := by
  have hr : (bigSep Finset.univ fun c : Dev nD => bigSep Finset.univ fun j : Lane => (dutyTok ER (kcell (c, some (true, j))) 0 false : sProp 𝕄))
      = bigSep Finset.univ fun c : Dev nD => bigSep Finset.univ fun j : Lane => dutyTok ER (recvTo j c) 0 false := by
    rw [bigSep_univ_comm, bigSep_univ_comm (fun (c : Dev nD) (j : Lane) => (dutyTok ER (recvTo j c) 0 false : sProp 𝕄))]
    exact bigSep_congr fun j _ => bigSep_univ_equiv (nbEquiv (dir j.1)) (fun c : Dev nD => (dutyTok ER (kcell (c, some (true, j))) 0 false : sProp 𝕄))
  unfold toks payToks
  simp only [bigSep_sep']
  rw [hr, bigSep_univ_equiv (nbEquiv true) (fun c : Dev nD => (dutyTok ER (kcell (c, none)) 0 false : sProp 𝕄)),
    bigSep_univ_equiv (nbEquiv false) (fun c : Dev nD => (dutyTok ER (kcell (c, none)) 0 true : sProp 𝕄))]
  exact Entails.refl _

/-- The invariants of all cells are collected into records for everybody, and the tokens go to the devices that pay. -/
theorem regroup :
    (bigSep Finset.univ fun c : Dev nD => iprop((bigSep Finset.univ fun k => iprop(∃ κ : ℕ, cellInv ER (sched xs ds) κ (kcell (c, k))))
          ∗ (bigSep Finset.univ fun k => iprop(atPos ER (kcell (c, k)) 0 ∅ 0 ∗ reached ER (kcell (c, k)) 0)) ∗ toks c) : sProp 𝕄)
      ⊢ bigSep Finset.univ (G' xs ds) := by
  rw [bigSep_sep', bigSep_sep', ← bigSep_univ_prod (fun ck : Dev nD × Key => iprop(∃ κ : ℕ, cellInv ER (sched xs ds) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : Dev nD × Key => (reached ER (kcell ck) 0 : sProp 𝕄))]
  iintro ⟨HI, ⟨Hat, #HR⟩, Htok⟩
  ihave HK := (BI.bigSep_exists_pi Finset.univ (fun (ck : Dev nD × Key) (κ : ℕ) => (cellInv ER (sched xs ds) κ (kcell ck) : sProp 𝕄))) $$ HI
  icases HK with ⟨%K, #HI⟩
  ihave Htk := (toks_around (F := F)) $$ Htok
  iapply (bigSep_with_persistent (R := records xs ds K) fun c _ => show iprop(records xs ds K ∗ linear c) ⊢ G' xs ds c from by
    unfold G'; iintro ⟨H1, H2⟩; iexists K; isplitl [H1] <;> iassumption)
  isplitr
  · unfold records; isplitl; · iexact HI
    iexact HR
  · unfold linear
    rw [bigSep_sep']
    isplitl [Hat]; · iexact Hat
    iexact Htk

/-- The global step: every device's semaphores become cells with their invariants. -/
theorem glob : (bigSep Finset.univ fun c => iprop(Pipeline.ownSems0 (Ix := Unit) (Name := ℕ) (U := UU) (Lvl := ℕ) (Val := Elt F) (τ := τ) osem c ∗ unscopedSems0 c ∗ G xs ds c) : sProp 𝕄)
    ⊢ |={Set.univ}=> bigSep Finset.univ (G' xs ds) :=
  ((bigSep_mono fun c _ => core_alloc xs ds c).trans (bigSep_fupd _ _)).trans (BI.fupd_mono (regroup xs ds))

/-! ## The launch credit -/

/-- What device `d` owes a receive cell: the units of the copy that arrives there, if it is `d`'s. -/
theorem owed_recv (d c : Dev nD) (j : Lane) : O₀ d (kcell (c, some (true, j))) () = if d = frm j.1 c then N else 0 := by
  have ho : ∀ l : List Lane, owed d l (kcell (c, some (true, j))) () = if d = frm j.1 c then N * l.count j else 0 := by
    intro l
    induction l with
    | nil => simp [owed]
    | cons i l ih =>
      rw [owed, Pi.add_apply, Finsupp.add_apply, ih, tallyAt_apply]
      by_cases hi : i = j
      · subst hi
        rw [List.count_cons_self]
        by_cases h : d = frm i.1 c
        · subst h; rw [if_pos rfl, if_pos rfl, recvTo, dst_frm, if_pos ⟨rfl, rfl⟩, Nat.mul_succ]
        · rw [if_neg h, if_neg h, if_neg (fun ⟨e, _⟩ => h (by have := congrArg Prod.fst (kcell_injective e); dsimp only at this; rw [this, frm_dst]))]
      · rw [List.count_cons_of_ne hi, if_neg (c := _ ∧ _) (fun ⟨e, _⟩ => hi (by have := congrArg Prod.snd (kcell_injective e); cases this; rfl)), Nat.add_zero]
  have hc : ∀ j : Lane, order.count j = 1 := by decide
  unfold O₀
  rw [Pi.add_apply, Finsupp.add_apply, Pi.add_apply, Finsupp.add_apply, ho, hc, Nat.mul_one,
    tallyAt_ne_cell (fun h => by cases congrArg Prod.snd (kcell_injective h)), tallyAt_ne_cell (fun h => by cases congrArg Prod.snd (kcell_injective h)),
    Finsupp.zero_apply, Nat.add_zero, Nat.add_zero]

/-- What device `d` owes a barrier: a unit for each side on which it is the neighbour. -/
theorem owed_bar (d c : Dev nD) : O₀ d (kcell (c, none)) () = (if c = nxt d then 1 else 0) + (if c = prv d then 1 else 0) := by
  have ho : owed d order (kcell (c, none)) () = 0 := Nat.eq_zero_of_not_pos fun h => by
    obtain ⟨j, -, e⟩ := owed_pos h
    cases congrArg Prod.snd (kcell_injective e)
  unfold O₀
  rw [Pi.add_apply, Finsupp.add_apply, Pi.add_apply, Finsupp.add_apply, ho, Nat.zero_add, tallyAt_apply, tallyAt_apply]
  have e : ∀ a : Dev nD, (kcell (c, none) = kcell (a, none) ∧ () = ()) ↔ c = a := fun a =>
    ⟨fun h => congrArg Prod.fst (kcell_injective h.1), fun h => h ▸ ⟨rfl, rfl⟩⟩
  rw [if_congr (e (nxt d)) rfl rfl, if_congr (e (prv d)) rfl rfl]

/-- A barrier's launch credit is two units, one from each neighbour. -/
theorem launch_bar (c : Dev nD) :
    tallyOn (kcell (c, none)) (launchCredit (Pipeline.owing O₀) 0 (kcell (c, none))) = (tallyAt (kcell (c, none)) () 2 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- A receive cell's launch credit is the units of the one copy that arrives there. -/
theorem launch_recv (c : Dev nD) (j : Lane) :
    tallyOn (kcell (c, some (true, j))) (launchCredit (Pipeline.owing O₀) 0 (kcell (c, some (true, j)))) = (tallyAt (kcell (c, some (true, j))) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (frm j.1 c) fun _ => N,
    if_pos (Finset.mem_univ _)]

/-- The launch credit of a device: its barrier's two units and the units of every copy that comes in. -/
theorem creds (c : Dev nD) :
    (Pipeline.launchCred O₀ c : sProp 𝕄) ⊢ iprop(cred (tallyAt (kcell (c, none)) () 2) ∗ bigSep Finset.univ fun j => cred (tallyAt (kcell (c, some (true, j))) () N)) := by
  let f : Option Lane ↪ SemLoc sig := ⟨fun o => csem (o.map fun j => (true, j)), fun a b h => by
    have := csem_injective h
    cases a <;> cases b <;> simp_all⟩
  have h1 := bigSep_subset (Finset.subset_univ (Finset.univ.map f)) (Φ := fun sm : SemLoc sig =>
    (cred (tallyOn ((c : Thread nD τ), sm) (launchCredit (Pipeline.owing O₀) 0 ((c : Thread nD τ), sm))) : sProp 𝕄))
  rw [bigSep_map, show (Finset.univ : Finset (Option Lane)) = insert none (Finset.univ.map Function.Embedding.some) from by ext k; cases k <;> simp,
    bigSep_insert (by simp), bigSep_map] at h1
  exact h1.trans (BI.sep_mono (Entails.of_eq (congrArg cred (launch_bar c))) (bigSep_mono fun j _ => Entails.of_eq (congrArg cred (launch_recv c j))))

/-- From what was dealt, the credit and the landing slots to what the body takes. -/
theorem given_intro (c : Dev nD) :
    iprop(linear c ∗ cred (tallyAt (kcell (c, none)) () 2) ∗ (bigSep Finset.univ fun j => cred (tallyAt (kcell (c, some (true, j))) () N))
        ∗ bigSep Finset.univ fun j => slotAny (F := F) c (comS j)) ⊢ given (F := F) c := by
  unfold linear payToks given rights places
  rw [bigSep_keys, bigSep_cells, bigSep_ways (fun j => slotAny (F := F) c (comS j))]
  simp only [bigSep_sep']
  iintro ⟨⟨⟨Hb, Hs, Hr⟩, ⟨Ht, Hf⟩, Hts, Htr⟩, Hc, Hcr, Hl, Hl'⟩
  isplitl [Hb]; · iexact Hb
  isplitl [Hc]; · iexact Hc
  isplitl [Hf]; · iexact Hf
  isplitl [Ht]; · iexact Ht
  isplitl [Hl']; · iexact Hl'
  isplitl [Hl]; · iexact Hl
  isplitl [Hts Htr]
  · isplitl [Hts] <;> iassumption
  isplitl [Hs]; · iexact Hs
  isplitl [Hr] <;> iassumption

end Deal

end Cert.RingProof

end
-- ==== Proof.Run.lean ====
/-
# The run

The launch and the run of the program, at any float values: it ends, the arguments are unchanged, every semaphore is at zero, and every device's result is `outAt`.
-/
module

public import proofs.«01_k».proof.Proof.Deal

public import Idealize.ShloMosaic.Lib.Pipeline.Launch
public import Idealize.ShloMosaic.Lib.Pipeline.CollectiveSegs
public import proofs.«01_k».proof.Proof.Gen.KernelIdeal.Points

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Run

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-- Device `c`'s block of `x` and its block of `dy`. -/
def xIn (c : Dev nD) : Vec F S1024x1024 .f32 := m ((c : Thread nD τ).loc main_arg0)
@[inherit_doc xIn] def dIn (c : Dev nD) : Vec F S1024x4096 .f32 := m ((c : Thread nD τ).loc main_arg1)

/-- What device `c`'s body starts from, besides its buffers. -/
def start (c : Dev nD) : sProp 𝕄 :=
  iprop(G' (xIn m) (dIn m) c ∗ cred (tallyAt (kcell (c, none)) () 2) ∗ (bigSep Finset.univ fun j => cred (tallyAt (kcell (c, some (true, j))) () N)) ∗ levAts L lv)

/-- The three scratch buffers of device `c`, at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Before the body: what the device starts with, and the scratch buffers. -/
def Φ₀ (c : Dev nD) : sProp 𝕄 := iprop(start m c ∗ scratches (F := F) c)
/-- After the body: the scratch buffers, and every own cell closed at zero. -/
def Φ₁ (c : Dev nD) : sProp 𝕄 := iprop(scratches (F := F) c ∗ (bigSep Finset.univ fun k : Bool × Lane => semVal (kcell (c, some k)) 0) ∗ semVal (kcell (c, none)) 0)

/-- The proof data of the one launch: the arrays at the start, the contents of the windows after the body, and what a device owes before it and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => dIn m c
    | ⟨2, _⟩ => outAt (xIn m) (dIn m) c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-! ## The body -/

/-- When every copy is past, all slots are the device's again and all its cells are at zero. -/
theorem past_back (c : Dev nD) : spent (xIn m) (dIn m) c ⊢ iprop(((bigSep Finset.univ fun j => slotAny (F := F) c (srcS j)) ∗ bigSep Finset.univ fun r : Fin 4 => slotAny (F := F) c (comS (r, 2)))
    ∗ (bigSep Finset.univ fun k : Bool × Lane => semVal (kcell (c, some k)) 0) ∗ semVal (kcell (c, none)) 0) := by
  have hs : (bigSep Finset.univ fun j : Lane => slot c (srcS j) (sent (xIn m) (dIn m) j c)) ⊢ bigSep Finset.univ fun j => slotAny (F := F) c (srcS j) :=
    bigSep_mono fun j _ => (show (slot c (srcS j) (sent (xIn m) (dIn m) j c) : sProp 𝕄) ⊢ slotAny (F := F) c (srcS j) from by iintro H; iexists _; iexact H)
  unfold spent past came
  rw [bigSep_cells, bigSep_strips]
  simp only [bigSep_sep']
  iintro ⟨⟨Hs, H1, H2⟩, C0, C1, C2, C3, Hb⟩
  isplitl [Hs C0 C1 C2 C3]
  · isplitl [Hs]
    · iapply hs; iexact Hs
    isplitl [C0]; · iexists _; iexact C0
    isplitl [C1]; · iexists _; iexact C1
    isplitl [C2]; · iexists _; iexact C2
    iexists _; iexact C3
  isplitl [H1 H2]
  · isplitl [H1] <;> iassumption
  iexact Hb

/-- The bf16 scratch whole. -/
theorem half_in (c : Dev nD) (f : Buf (Elt F) ((c : Thread nD τ).loc cc0_scratch0)) :
    (iprop(((c : Thread nD τ).loc cc0_scratch0) ↦{fullShare} f) : sProp 𝕄) ⊢ held c bM f := by
  unfold held owns
  simp only [Memref.view_whole, View.read_whole, View.set_whole]
  iintro H; iexists f; isplitr; · (ipureintro; rfl)
  iexact H
/-- It is given back at some contents. -/
theorem half_out (c : Dev nD) (X : Vec F S1024x4096 .bf16) :
    held c bM X ⊢ (iprop(∃ f : Buf (Elt F) ((c : Thread nD τ).loc cc0_scratch0), ((c : Thread nD τ).loc cc0_scratch0) ↦{fullShare} f) : sProp 𝕄) := by
  unfold held owns
  simp only [Memref.view_whole, View.read_whole, View.set_whole]
  iintro ⟨%f, -, H⟩; iexists f; iexact H

/-- What the body of device `c` finds: its start, its debts, and the staging buffers of the two arguments and of the result. -/
def bodyPre (c : Dev nD) : sProp 𝕄 :=
  iprop(Φ₀ m c ∗ (dats m ρ 0 c).owesAt () t0_0.castSucc
    ∗ (∃ d, held c xM ((dats m ρ 0 c).before (0 : Fin 3) t0_0 d))
    ∗ (∃ d, held c dM ((dats m ρ 0 c).before (1 : Fin 3) t0_0 d))
    ∗ (∃ d, held c oM ((dats m ρ 0 c).before (2 : Fin 3) t0_0 d)))

/-- What it leaves: the closed cells, no debts, the arguments as they were, and the result. -/
def bodyPost (c : Dev nD) : sProp 𝕄 :=
  iprop(Φ₁ (F := F) c ∗ (dats m ρ 0 c).owesAt () t0_0.succ ∗ held c xM (xIn m c) ∗ held c dM (dIn m c) ∗ held c oM (outAt (xIn m) (dIn m) c))

/-- Every window's one block is its whole array. -/
theorem read_x (f : (main_arg0 : Ref sig .tc).ty.Contents (Elt F)) : (win0_0.blk t0_0).view.read (Elt F) f = f :=
  Memref.read_access_unit_zero (Elt F) main_arg0 (funext fun a => by fin_cases a <;> rfl) _ f
@[inherit_doc read_x] theorem read_d (f : (main_arg1 : Ref sig .tc).ty.Contents (Elt F)) : (win0_1.blk t0_0).view.read (Elt F) f = f :=
  Memref.read_access_unit_zero (Elt F) main_arg1 (funext fun a => by fin_cases a <;> rfl) _ f
@[inherit_doc read_x] theorem read_o (f : (main_v1 : Ref sig .tc).ty.Contents (Elt F)) : (win0_2.blk t0_0).view.read (Elt F) f = f :=
  Memref.read_access_unit_zero (Elt F) main_v1 (funext fun a => by fin_cases a <;> rfl) _ f

/-- The body finds the device's blocks of `x` and `dy` in the staging buffers. -/
theorem before_x (c : Dev nD) (d) : (dats m ρ 0 c).before (0 : Fin 3) t0_0 d = xIn m c := by
  unfold Dat.before; rw [if_pos (fetch0_0 t0_0)]; exact read_x (xIn m c)
@[inherit_doc before_x] theorem before_d (c : Dev nD) (d) : (dats m ρ 0 c).before (1 : Fin 3) t0_0 d = dIn m c := by
  unfold Dat.before; rw [if_pos (fetch0_1 t0_0)]; exact read_d (dIn m c)

/-- The debts at the body's start, -/
theorem owes_in (c : Dev nD) : (dats m ρ 0 c).owesAt () t0_0.castSucc ⊢ owing (F := F) c (O₀ c) := by
  unfold Dat.owesAt Pipeline.owesWithin owing
  rw [show (dats m ρ 0 c).owed t0_0.castSucc = O₀ c from rfl]
  iintro ⟨%W, -, H⟩; iexists W; iexact H
/-- and at its end: none are left. -/
theorem owes_out (c : Dev nD) : owing (F := F) c 0 ⊢ (dats m ρ 0 c).owesAt () t0_0.succ := by
  unfold Dat.owesAt Pipeline.owesWithin owing
  rw [show (dats m ρ 0 c).owed t0_0.succ = 0 from rfl]
  iintro ⟨%W, H⟩; iexists W
  isplitr; · (ipureintro; exact fun _ _ => Or.inl trivial)
  iexact H

/-- The body from what the launch dealt to the exit. -/
theorem sound_body (c : Dev nD) : bodyPre m ρ c ⊢ runs c
    (cc0_body xM (Memref.isWhole_whole _) dM (Memref.isWhole_whole _) oM (Memref.isWhole_whole _) bM (Memref.isWhole_whole _)
      sM (Memref.isWhole_whole _) cM (Memref.isWhole_whole _) cc0_scratch3 cc0_scratch4) (fun _ => bodyPost m ρ c) := by
  unfold bodyPre Φ₀ start G' scratches records
  simp only [before_x, before_d]
  iintro ⟨⟨⟨⟨%K, ⟨#HI, #HR⟩, Hlin⟩, Hc, Hcr, #Hlev⟩, ⟨%fb, Hb⟩, Hs, Hl⟩, HO, ⟨%d0, Hx⟩, ⟨%d1, Hd⟩, ⟨%d2, Ho⟩⟩
  ihave HO' := (owes_in m ρ c) $$ HO
  ihave Hb' := (half_in (F := F) c fb) $$ Hb
  ihave Hs' := (stg_cut (F := F) c) $$ Hs
  icases Hs' with ⟨Hs, HsR⟩
  ihave Hl' := (com_cut (F := F) c) $$ Hl
  icases Hl' with ⟨Hl, HlR⟩
  ihave Hg := (given_intro (F := F) c) $$ [Hlin Hc Hcr Hl]
  · isplitl [Hlin]; · iexact Hlin
    isplitl [Hc]; · iexact Hc
    isplitl [Hcr] <;> iassumption
  ihave Hs4 := (Entails.of_eq (bigSep_strips fun r => slotAny (F := F) c (stgS r))) $$ Hs
  icases Hs4 with ⟨S0, S1, S2, S3⟩
  iapply (run_body (xIn m) (dIn m) K c _ fb) $$ [Hg Hx Hd Ho Hb' S0 S1 S2 S3 HO']
  · isplitr
    · unfold known
      isplitr; · iexact HI
      isplitr; · iexact HR
      iexact Hlev
    isplitl [Hg]; · iexact Hg
    isplitl [Hx]; · iexact Hx
    isplitl [Hd]; · iexact Hd
    isplitl [Ho]; · iexact Ho
    isplitl [Hb']; · iexact Hb'
    isplitl [S0]; · iexact S0
    isplitl [S1]; · iexact S1
    isplitl [S2]; · iexact S2
    isplitl [S3]; · iexact S3
    iexact HO'
  iintro ⟨Hsp, Hx, Hd, Ho, Hb, HO⟩
  ihave Hp := (past_back m c) $$ Hsp
  icases Hp with ⟨Hsl, Hz, Hzb⟩
  ihave Hsl' := (slots_back (F := F) c) $$ Hsl
  icases Hsl' with ⟨Hs, Hl⟩
  unfold bodyPost Φ₁ scratches
  isplitl [Hb Hs HsR Hl HlR Hz Hzb]
  · isplitl [Hb Hs HsR Hl HlR]
    · isplitl [Hb]; · iapply (half_out (F := F) c _); iexact Hb
      isplitl [Hs HsR]
      · iapply (stg_join (F := F) c)
        isplitl [Hs] <;> iassumption
      iapply (com_join (F := F) c)
      isplitl [Hl] <;> iassumption
    isplitl [Hz] <;> iassumption
  isplitl [HO]; · iapply (owes_out m ρ c); iexact HO
  isplitl [Hx]; · iexact Hx
  isplitl [Hd] <;> iassumption

/-- The body obligation on device `c`. -/
theorem body_obligation (c : Dev nD) : BodyObligation (dats (F := F) m ρ 0 c) (defs₀ (F := F)) 𝒱₀ () Set.univ := fun t => by
  rw [fin_N0 t, bigSep_W0, bigSep_W0]
  exact sound_body m ρ c

/-! ## The launch -/

/-- Every window is held with the full share. -/
theorem share_eq (c : Dev nD) (w : Fin cfg0.W) : (dats m ρ 0 c).share w = fullShare := by unfold Dat.share; split <;> rfl

/-- What the launch gives device `c` is what the body starts with, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xIn m) (dIn m) c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- together with the scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs] <;> iassumption

/-- After the body every semaphore is at zero, and the scratch buffers are given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ scratches Pipeline.ownSems0
  iintro ⟨Hr, Hz, Hzb⟩
  isplitl [Hzb]; · iexact Hzb
  isplitl [Hz] <;> iassumption

/-- The pipeline's own waits are below everything that a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The contents of a window's array after the launch. -/
def finalA (c : Dev nD) (w : Fin cfg0.W) : Buf (Elt F) ((cfg0.win w).arr.view.loc (c : Thread nD τ)) := (dats m ρ 0 c).arrAt w cfg0.N

/-- Every array of a window has its contents after the launch. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of four devices, for any float values and from any memory with the semaphores at zero, every weakly fair execution ends, with each window's array at its
    computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xIn m) (dIn m)) (G' := G' (xIn m) (dIn m)) (u₀ := u₀)
    (hu₀ := by
      unfold u₀
      iintro Hu
      ihave H := (ownU_pair _ _) $$ Hu
      icases H with ⟨HP, HX⟩
      imod (fund_ring (xIn m) (dIn m)) $$ HX with HG
      imodintro
      isplitl [HP] <;> iassumption)
    (hglob := glob (xIn m) (dIn m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run are as before it, -/
theorem finalA_x (c : Dev nD) : finalA m ρ c (0 : Fin 3) = xIn m c := (dats (F := F) m ρ 0 c).arrAt_in (0 : Fin 3) rfl _
@[inherit_doc finalA_x] theorem finalA_d (c : Dev nD) : finalA m ρ c (1 : Fin 3) = dIn m c := (dats (F := F) m ρ 0 c).arrAt_in (1 : Fin 3) rfl _

/-- The result after the run is what the body computed. -/
theorem finalA_o (c : Dev nD) : finalA m ρ c (2 : Fin 3) = outAt (xIn m) (dIn m) c := by
  have h : (win0_2.blk t0_0).view.read (Elt F) (finalA m ρ c (2 : Fin 3)) = outAt (xIn m) (dIn m) c := by
    unfold finalA
    rw [show cfg0.N = (t0_0 : Fin cfg0.N).val + 1 from N_0, (dats m ρ 0 c).arrAt_succ (2 : Fin 3) t0_0, if_pos (flush0_2 t0_0)]
    exact View.read_write_univ _ _
  rwa [read_o] at h

end Run

end Cert.RingProof

end
-- ==== Proof.Value.lean ====
/-
# The value

At the ideal values the result of device `c` is block `c` of the product of the whole arguments: the four devices' products of their own 1024 rows, added along the ring, are the product over all 4096 rows.
-/
module

public import proofs.«01_k».proof.Proof.Run
public import proofs.«01_k».proof.Proof.Gen.ReferenceIdeal
public import Idealize.ShloMosaic.Lib.Pointwise
public import Idealize.ShloMosaic.Lib.Pipeline.ValueKit.Acc
public import Idealize.ShloMosaic.Lib.Layout

@[expose] public section

noncomputable section

namespace Cert.RingProof

open Cert.KernelIdeal Cert.KernelIdeal.Gen
open Idealize.ShloMosaic
open Idealize.ShloMosaic.TcCoe

/-! ## One device's product -/

/-- The device's own product at an entry: a sum over its 1024 rows. -/
theorem part_apply (r : Fin 4) (X : Vec Ideal S1024x1024 .f32) (q : Dev nD) (D : Vec Ideal S1024x4096 .f32) (i : S256x1024.Idx) :
    part r X q (half D) i = ∑ k : Fin 1024,
      (X (ix2 k ⟨q.val * 256 + (i 0).val, by have : (i 0).val < 256 := (i 0).isLt; have := q.isLt; dsimp [nD] at this; omega⟩)
        * D (ix2 k ⟨1024 * r.val + (i 1).val, by have : (i 1).val < 1024 := (i 1).isLt; have := r.isLt; omega⟩) : EReal) := by
  show Ideal.matmul _ _ _ _ i = _
  rw [Ideal.matmul_apply₁ _ rfl rfl]
  rw [show (constant (F := Ideal) S256x1024 .f32 0x00000000#32) i = 0 from Ideal.ofBits_zero_f32, zero_add]
  refine Finset.sum_congr rfl fun k _ => congrArg₂ (· * ·) ?_ ?_
  · refine congrArg X (funext fun a => Fin.ext ?_)
    fin_cases a
    · show 0 + 1 * k.val = k.val; omega
    · show q.val * 256 + 1 * (i 0).val = q.val * 256 + (i 0).val; omega
  · refine congrArg D (funext fun a => Fin.ext ?_)
    fin_cases a
    · exact Nat.zero_add _
    · rfl

/-- The four devices from which a sum comes to `c`, the last of them `c` itself, are all devices. -/
theorem sum_around {M : Type} [AddCommMonoid M] (r : Fin 4) (c : Dev nD) (Φ : Dev nD → M) :
    Φ (frm r (frm r (frm r c))) + Φ (frm r (frm r c)) + Φ (frm r c) + Φ c = ∑ d : Dev nD, Φ d := by
  let e : Fin 4 → Dev nD := fun k => ![frm r (frm r (frm r c)), frm r (frm r c), frm r c, c] k
  have he : Function.Bijective e := by revert r c; decide
  rw [← he.sum_comp Φ, Fin.sum_univ_four]; rfl

/-- All sums that end on `c` are for `c`'s rows. -/
theorem tgt_around (r : Fin 4) (c : Dev nD) :
    tgt r 0 (frm r (frm r (frm r c))) = c ∧ tgt r 1 (frm r (frm r c)) = c ∧ tgt r 2 (frm r c) = c ∧ tgt r 3 c = c := by
  revert r c; decide

variable (xs : Dev nD → Vec Ideal S1024x1024 .f32) (ds : Dev nD → Vec Ideal S1024x4096 .f32)

/-- A sum that has gone round is the sum of all devices' products. -/
theorem acc_eq (r : Fin 4) (c : Dev nD) (i : S256x1024.Idx) : acc xs ds r 3 c i = (∑ d : Dev nD, (part r (xs d) c (half (ds d)) i : EReal) : EReal) := by
  obtain ⟨h0, h1, h2, h3⟩ := tgt_around r c
  rw [← sum_around r c]
  let P (d q : Dev nD) : EReal := part r (xs d) q (half (ds d)) i
  show P _ (tgt r 0 _) + P _ (tgt r 1 _) + P _ (tgt r 2 _) + P _ (tgt r 3 _) = P _ c + P _ c + P _ c + P _ c
  rw [h0, h1, h2, h3]

/-- The result of device `c` at an entry: the sum over the devices and over their rows. -/
theorem outAt_apply (c : Dev nD) (i : S256x4096.Idx) : outAt xs ds c i = (∑ d : Dev nD, ∑ k : Fin 1024,
      (xs d (ix2 k ⟨c.val * 256 + (i 0).val, by have : (i 0).val < 256 := (i 0).isLt; have := c.isLt; dsimp [nD] at this; omega⟩) * ds d (ix2 k (i 1)) : EReal) : EReal) := by
  unfold outAt
  rw [acc_eq]
  refine Finset.sum_congr rfl fun d _ => ?_
  rw [part_apply]
  refine Finset.sum_congr rfl fun k _ => congrArg₂ (· * ·) (congrArg (xs d) rfl) (congrArg (ds d) (congrArg (ix2 k) (Fin.ext ?_)))
  exact Nat.div_add_mod _ _

/-! ## The whole product -/

/-- The reference's result. -/
def whole (X : Cert.ReferenceIdeal.S4096x1024.Idx → EReal) (D : Cert.ReferenceIdeal.S4096x4096.Idx → EReal) : FVec Ideal Cert.ReferenceIdeal.S1024x4096 .f32 :=
  Host.dotGeneral (F := Ideal) (φ₁ := .f32) (φ₂ := .f32) Cert.ReferenceIdeal.dot_S1024x4096_S4096x4096_S1024x4096_1_0_0_1_n_n none
    (transpose Cert.ReferenceIdeal.S1024x4096 [1, 0] X Cert.ReferenceIdeal.Gen.facts.transposes_S4096x1024_S1024x4096_1_0) D

/-- The reference's result at an entry: a sum over all 4096 rows, -/
theorem whole_apply (X : Cert.ReferenceIdeal.S4096x1024.Idx → EReal) (D : Cert.ReferenceIdeal.S4096x4096.Idx → EReal) (i : Cert.ReferenceIdeal.S1024x4096.Idx) :
    whole X D i = (∑ k : Fin 4096, X (ix2 k (i 0)) * D (ix2 k (i 1)) : EReal) := by
  unfold whole
  pointwise

/-- which is the sum over the four blocks of rows. -/
theorem whole_blocks (X : Cert.ReferenceIdeal.S4096x1024.Idx → EReal) (D : Cert.ReferenceIdeal.S4096x4096.Idx → EReal) (i : Cert.ReferenceIdeal.S1024x4096.Idx) :
    whole X D i = (∑ d : Fin 4, ∑ k : Fin 1024, X (ix2 ⟨d.val * 1024 + k.val, by omega⟩ (i 0)) * D (ix2 ⟨d.val * 1024 + k.val, by omega⟩ (i 1)) : EReal) := by
  rw [whole_apply]
  exact (Fin.sum_mul_add_fin (S := 4) (n := 1024) (fun l : Fin 4096 => (X (ix2 l (i 0)) * D (ix2 l (i 1)) : EReal))).symm

/-- Where every device holds its block of rows of the arguments, its result is its block of rows of the whole product. -/
theorem outAt_eq_block (X : Cert.ReferenceIdeal.S4096x1024.Idx → EReal) (D : Cert.ReferenceIdeal.S4096x4096.Idx → EReal)
    (hx : ∀ d, xs d = Layout.block ⟨2, ![1024, 1024]⟩ ⟨2, ![4096, 1024]⟩ 0 4 d X) (hd : ∀ d, ds d = Layout.block ⟨2, ![1024, 4096]⟩ ⟨2, ![4096, 4096]⟩ 0 4 d D) (c : Dev nD) :
    outAt xs ds c = Layout.block ⟨2, ![256, 4096]⟩ ⟨2, ![1024, 4096]⟩ 0 4 c (whole X D) := by
  funext i
  rw [outAt_apply, Layout.block_apply, whole_blocks]
  refine Finset.sum_congr rfl fun d _ => Finset.sum_congr rfl fun k _ => ?_
  rw [hx, hd]
  refine congrArg₂ (· * ·) (congrArg X (funext (Fin.forall_fin_two.mpr ⟨Fin.ext ?_, Fin.ext ?_⟩))) (congrArg D (funext (Fin.forall_fin_two.mpr ⟨Fin.ext ?_, Fin.ext ?_⟩)))
  · exact (Layout.idx_rows_val _ d _).1
  · exact (Layout.idx_rows_val _ d _).2
  · exact (Layout.idx_rows_val _ d _).1
  · exact (Layout.idx_rows_val _ d _).2

end Cert.RingProof

end
-- ==== Proof.lean ====
/-
# The claims

The three frames and the idealization of the ring kernel, from its run (`Run.lean`) and the run of the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.RingProof

/-- The run of the ring at any float values: every device's result, its arguments unchanged, every semaphore at zero. -/
theorem run_ring {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_v1) = outAt (xIn m) (dIn m) c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c (2 : Fin 3)).trans (finalA_o m ρ c), (h.1 c (0 : Fin 3)).trans (finalA_x m ρ c),
    (h.1 c (1 : Fin 3)).trans (finalA_d m ρ c)⟩, h.2⟩) (run_main m ρ)

/-- The two printed programs have one text: the bodies are the same. -/
theorem bodies_eq : Cert.Kernel.defs₀ (F := Bits) = Cert.KernelIdeal.defs₀ (F := Bits) := by
  unfold Cert.Kernel.defs₀ Cert.KernelIdeal.defs₀
  congr 1
  funext l a
  rcases l with ⟨_ | l, h⟩
  · rcases a with ⟨t, s⟩; rfl
  · exact absurd h (Nat.not_lt.2 (Nat.le_add_left _ _))

/-- And so are the tables the launch runs. -/
theorem tables_eq : Cert.Kernel.defs (F := Bits) = Cert.KernelIdeal.defs (F := Bits) :=
  congrArg (Pipeline.defs (Cert.KernelIdeal.pcfgs (F := Bits))) bodies_eq

/-- The kernel as written runs, leaves its arguments and ends quiescent: its text is the idealized kernel's, read at bits. -/
theorem frame_kernel : Cert.quiescent_Kernel := by
  intro m ρ _
  rw [tables_eq]
  exact (θ_run Cert.KernelIdeal.defs _ _).mono (fun _ h => ⟨fun c => (h.1 c).2, h.2⟩) (run_ring (F := Bits) m ρ)

/-- The idealized kernel runs, leaves its arguments and ends quiescent. -/
theorem frame_ideal : Cert.quiescent_KernelIdeal := fun m ρ _ =>
  (θ_run Cert.KernelIdeal.defs _ _).mono (fun _ h => ⟨fun c => (h.1 c).2, h.2⟩) (run_ring (F := Ideal) m ρ)

/-- The reference runs and leaves its arguments; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the ideal values every device's result is its block of the reference's. -/
theorem algebraic : Cert.algebraic_KernelIdeal_ReferenceIdeal := by
  intro m g m' g' _ hm
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c => ⟨(h.1 c).1.trans
      (outAt_eq_block (xIn m) (dIn m) _ _ (fun d => (hm d).1) (fun d => (hm d).2) c), (h.1 c).2⟩) (run_ring (F := Ideal) m g)
  · exact (θ_run Cert.ReferenceIdeal.defs _ _).mono (fun _ h => h 0) (Cert.ReferenceIdeal.Value.run (F := Ideal) m' g')

/-- All claims together. -/
theorem claim : Cert.Claim := ⟨Cert.Kernel.Gen.facts, Cert.KernelIdeal.Gen.facts, Cert.ReferenceIdeal.Gen.facts,
  frame_kernel, frame_ideal, frame_reference, trivial, algebraic⟩

end Cert.Proof

end
